-- ==== Defs.lean ====
def Pre_Kernel (m : (ℓ : Loc Cert.Kernel.nD Cert.Kernel.τ Cert.Kernel.sig) → Buf (Elt Bits) ℓ) : Prop :=
  True

def Pre_Kernel_no_tie_Kernel [hPre_no_tie_Kernel : Cert.Pre_no_tie_Kernel.Facts] (m : (ℓ : Loc Cert.Kernel.nD Cert.Kernel.τ Cert.Kernel.sig) → Buf (Elt Bits) ℓ) : Prop :=
  ∀ c : Dev Cert.Kernel.nD,
    (Cert.Pre_no_tie_Kernel.fn (F := Bits) (m ((c.tc : Thread Cert.Kernel.nD Cert.Kernel.τ).loc Cert.Kernel.main_arg0))) = (fun _ => 1#1)

def Pre_KernelIdeal [hPre_no_tie_Kernel : Cert.Pre_no_tie_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_Kernel.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_ReferenceIdeal [hPre_no_tie_ReferenceIdeal : Cert.Pre_no_tie_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_no_tie_Kernel [hKernel : Cert.Kernel.Facts] [hPre_no_tie_Kernel : Cert.Pre_no_tie_Kernel.Facts] : Prop :=
  ∀ (m : (ℓ : Loc Cert.Kernel.nD Cert.Kernel.τ Cert.Kernel.sig) → Buf (Elt Bits) ℓ) (g : Dev Cert.Kernel.nD → PrngReg), Pre_Kernel_no_tie_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_tie_ReferenceIdeal [hReferenceIdeal : Cert.ReferenceIdeal.Facts] [hPre_no_tie_ReferenceIdeal : Cert.Pre_no_tie_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_tie_Kernel : Cert.Pre_no_tie_Kernel.Facts) (hPre_no_tie_ReferenceIdeal : Cert.Pre_no_tie_ReferenceIdeal.Facts),
    quiescent_Kernel (hKernel := hKernel)
    ∧ quiescent_Kernel_pre_no_tie_Kernel (hKernel := hKernel) (hPre_no_tie_Kernel := hPre_no_tie_Kernel)
    ∧ quiescent_KernelIdeal (hKernelIdeal := hKernelIdeal) (hPre_no_tie_Kernel := hPre_no_tie_Kernel)
    ∧ quiescent_ReferenceIdeal (hReferenceIdeal := hReferenceIdeal)
    ∧ quiescent_ReferenceIdeal_pre_no_tie_ReferenceIdeal (hReferenceIdeal := hReferenceIdeal) (hPre_no_tie_ReferenceIdeal := hPre_no_tie_ReferenceIdeal)
    ∧ preserves_Kernel_KernelIdeal
    ∧ algebraic_KernelIdeal_ReferenceIdeal (hKernelIdeal := hKernelIdeal) (hReferenceIdeal := hReferenceIdeal) (hPre_no_tie_Kernel := hPre_no_tie_Kernel)
-- ==== Pre_no_tie_Kernel.lean ====
abbrev S2048x1024 : Shape := ⟨2, ![2048, 1024]⟩
abbrev S_ : Shape := ⟨0, ![]⟩
abbrev S1024 : Shape := ⟨1, ![1024]⟩
abbrev S1x1024 : Shape := ⟨2, ![1, 1024]⟩

class Facts : Prop where
  reducesTo_S2048x1024_S1024_d0 : S2048x1024.ReducesTo [0] S1024
  h_S_ : 0 < S_.numel
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  natLt_1_32 : 1 < 32
  bcast_S_S1x1024 : S_.BroadcastsInDim S1x1024 (![] : Fin 0 → Fin S1x1024.rank)

variable [Facts]

def fn {F : FTy → Type} [FloatOps F] (main_arg0 : FVec F S2048x1024 .f32) : IVec S1x1024 1 :=
  let main_cst : FVec F S_ .f32 := constant S_ .f32 0xFF800000#32
  let main_v0 : FVec F S1024 .f32 := (fun x v => Host.reduce FloatOps.maximumf x v reducesTo_S2048x1024_S1024_d0 h_S_) main_arg0 main_cst
  let main_v1 : FVec F S1x1024 .f32 := broadcastInDim S1x1024 ![1] bcast_S1024_S1x1024_1 main_v0
  let main_v2 : FVec F S2048x1024 .f32 := broadcastInDim S2048x1024 ![0, 1] bcast_S1x1024_S2048x1024_0_1 main_v1
  let main_v3 : IVec S2048x1024 1 := cmpf .oeq main_arg0 main_v2
  let main_v4 : IVec S2048x1024 32 := (extui 32 · natLt_1_32) main_v3
  let main_c : IVec S_ 32 := constantI S_ 32 0#32
  let main_v5 : IVec S1024 32 := (fun x v => Host.reduce IntOp.addi x v reducesTo_S2048x1024_S1024_d0 h_S_) main_v4 main_c
  let main_v6 : IVec S1x1024 32 := broadcastInDim S1x1024 ![1] bcast_S1024_S1x1024_1 main_v5
  let main_c_0 : IVec S_ 32 := constantI S_ 32 1#32
  let main_v7 : IVec S1x1024 32 := broadcastInDim S1x1024 ![] bcast_S_S1x1024 main_c_0
  let main_v8 : IVec S1x1024 1 := cmpi .eq main_v6 main_v7
  main_v8
-- ==== Pre_no_tie_ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

class Facts : Prop where
  reducesTo_S32768x1024_S1024_d0 : S32768x1024.ReducesTo [0] S1024
  h_S_ : 0 < S_.numel
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  natLt_1_32 : 1 < 32
  bcast_S_S1x1024 : S_.BroadcastsInDim S1x1024 (![] : Fin 0 → Fin S1x1024.rank)

variable [Facts]

def fn {F : FTy → Type} [FloatOps F] (main_arg0 : FVec F S32768x1024 .f32) : IVec S1x1024 1 :=
  let main_cst : FVec F S_ .f32 := constant S_ .f32 0xFF800000#32
  let main_v0 : FVec F S1024 .f32 := (fun x v => Host.reduce FloatOps.maximumf x v reducesTo_S32768x1024_S1024_d0 h_S_) main_arg0 main_cst
  let main_v1 : FVec F S1x1024 .f32 := broadcastInDim S1x1024 ![1] bcast_S1024_S1x1024_1 main_v0
  let main_v2 : FVec F S32768x1024 .f32 := broadcastInDim S32768x1024 ![0, 1] bcast_S1x1024_S32768x1024_0_1 main_v1
  let main_v3 : IVec S32768x1024 1 := cmpf .oeq main_arg0 main_v2
  let main_v4 : IVec S32768x1024 32 := (extui 32 · natLt_1_32) main_v3
  let main_c : IVec S_ 32 := constantI S_ 32 0#32
  let main_v5 : IVec S1024 32 := (fun x v => Host.reduce IntOp.addi x v reducesTo_S32768x1024_S1024_d0 h_S_) main_v4 main_c
  let main_v6 : IVec S1x1024 32 := broadcastInDim S1x1024 ![1] bcast_S1024_S1x1024_1 main_v5
  let main_c_0 : IVec S_ 32 := constantI S_ 32 1#32
  let main_v7 : IVec S1x1024 32 := broadcastInDim S1x1024 ![] bcast_S_S1x1024 main_c_0
  let main_v8 : IVec S1x1024 1 := cmpi .eq main_v6 main_v7
  main_v8
-- ==== Kernel.lean ====
abbrev S2048x1024 : Shape := ⟨2, ![2048, 1024]⟩
abbrev S2x1024 : Shape := ⟨2, ![2, 1024]⟩
abbrev S16x2x1024 : Shape := ⟨3, ![16, 2, 1024]⟩
abbrev S16 : Shape := ⟨1, ![16]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x2x1024 : Shape := ⟨3, ![1, 2, 1024]⟩
abbrev S16x1x1024 : Shape := ⟨3, ![16, 1, 1024]⟩
abbrev S16x1024 : Shape := ⟨2, ![16, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .local _ .vmem, ⟨0, _⟩ => ⟨S2048x1024, .f32⟩
  | .local _ .vmem, ⟨1, _⟩ => ⟨S2x1024, .f32⟩
  | .local _ .vmem, ⟨2, _⟩ => ⟨S16x2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_142 : BitVec 32 := 1#32
  let v215 : BitVec 32 := Scalar.addi v2 c1_i32_142
  let c16_i32_143 : BitVec 32 := 16#32
  let c0_i32_144 : BitVec 32 := 0#32
  let v216 : BitVec 1 := Scalar.cmpi .eq c16_i32_143 c0_i32_144
  let c1_i32_145 : BitVec 32 := 1#32
  let v217 : BitVec 32 := Scalar.select v216 c1_i32_145 c16_i32_143
  let v218 : BitVec 32 := Scalar.remsi v215 v217
  let c0_i32_147 : BitVec 32 := 0#32
  let v220 : BitVec 1 := Scalar.cmpi .slt v218 c0_i32_147
  let c0_i32_148 : BitVec 32 := 0#32
  let v221 : BitVec 1 := Scalar.cmpi .slt v217 c0_i32_148
  let v222 : BitVec 1 := Scalar.xori v220 v221
  let c0_i32_146 : BitVec 32 := 0#32
  let v219 : BitVec 1 := Scalar.cmpi .ne v218 c0_i32_146
  let v223 : BitVec 1 := Scalar.andi v222 v219
  let v224 : BitVec 32 := Scalar.addi v218 v217
  let v225 : BitVec 32 := Scalar.select v223 v224 v218
  let c1_i32_153 : BitVec 32 := 1#32
  let v226 : BitVec 32 := Scalar.muli v225 c1_i32_153
  let v227 : BitVec 32 := Scalar.addi c0_i32_154 v226
  v227.toNat
def k0_dev17 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_159 : BitVec 32 := 2#32
  let v236 : BitVec 32 := Scalar.addi v2 c2_i32_159
  let c16_i32_160 : BitVec 32 := 16#32
  let c0_i32_161 : BitVec 32 := 0#32
  let v237 : BitVec 1 := Scalar.cmpi .eq c16_i32_160 c0_i32_161
  let c1_i32_162 : BitVec 32 := 1#32
  let v238 : BitVec 32 := Scalar.select v237 c1_i32_162 c16_i32_160
  let v239 : BitVec 32 := Scalar.remsi v236 v238
  let c0_i32_164 : BitVec 32 := 0#32
  let v241 : BitVec 1 := Scalar.cmpi .slt v239 c0_i32_164
  let c0_i32_165 : BitVec 32 := 0#32
  let v242 : BitVec 1 := Scalar.cmpi .slt v238 c0_i32_165
  let v243 : BitVec 1 := Scalar.xori v241 v242
  let c0_i32_163 : BitVec 32 := 0#32
  let v240 : BitVec 1 := Scalar.cmpi .ne v239 c0_i32_163
  let v244 : BitVec 1 := Scalar.andi v243 v240
  let v245 : BitVec 32 := Scalar.addi v239 v238
  let v246 : BitVec 32 := Scalar.select v244 v245 v239
  let c1_i32_170 : BitVec 32 := 1#32
  let v247 : BitVec 32 := Scalar.muli v246 c1_i32_170
  let v248 : BitVec 32 := Scalar.addi c0_i32_171 v247
  v248.toNat
def k0_dev18 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_176 : BitVec 32 := 3#32
  let v257 : BitVec 32 := Scalar.addi v2 c3_i32_176
  let c16_i32_177 : BitVec 32 := 16#32
  let c0_i32_178 : BitVec 32 := 0#32
  let v258 : BitVec 1 := Scalar.cmpi .eq c16_i32_177 c0_i32_178
  let c1_i32_179 : BitVec 32 := 1#32
  let v259 : BitVec 32 := Scalar.select v258 c1_i32_179 c16_i32_177
  let v260 : BitVec 32 := Scalar.remsi v257 v259
  let c0_i32_181 : BitVec 32 := 0#32
  let v262 : BitVec 1 := Scalar.cmpi .slt v260 c0_i32_181
  let c0_i32_182 : BitVec 32 := 0#32
  let v263 : BitVec 1 := Scalar.cmpi .slt v259 c0_i32_182
  let v264 : BitVec 1 := Scalar.xori v262 v263
  let c0_i32_180 : BitVec 32 := 0#32
  let v261 : BitVec 1 := Scalar.cmpi .ne v260 c0_i32_180
  let v265 : BitVec 1 := Scalar.andi v264 v261
  let v266 : BitVec 32 := Scalar.addi v260 v259
  let v267 : BitVec 32 := Scalar.select v265 v266 v260
  let c1_i32_187 : BitVec 32 := 1#32
  let v268 : BitVec 32 := Scalar.muli v267 c1_i32_187
  let v269 : BitVec 32 := Scalar.addi c0_i32_188 v268
  v269.toNat
def k0_dev19 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_193 : BitVec 32 := 4#32
  let v278 : BitVec 32 := Scalar.addi v2 c4_i32_193
  let c16_i32_194 : BitVec 32 := 16#32
  let c0_i32_195 : BitVec 32 := 0#32
  let v279 : BitVec 1 := Scalar.cmpi .eq c16_i32_194 c0_i32_195
  let c1_i32_196 : BitVec 32 := 1#32
  let v280 : BitVec 32 := Scalar.select v279 c1_i32_196 c16_i32_194
  let v281 : BitVec 32 := Scalar.remsi v278 v280
  let c0_i32_198 : BitVec 32 := 0#32
  let v283 : BitVec 1 := Scalar.cmpi .slt v281 c0_i32_198
  let c0_i32_199 : BitVec 32 := 0#32
  let v284 : BitVec 1 := Scalar.cmpi .slt v280 c0_i32_199
  let v285 : BitVec 1 := Scalar.xori v283 v284
  let c0_i32_197 : BitVec 32 := 0#32
  let v282 : BitVec 1 := Scalar.cmpi .ne v281 c0_i32_197
  let v286 : BitVec 1 := Scalar.andi v285 v282
  let v287 : BitVec 32 := Scalar.addi v281 v280
  let v288 : BitVec 32 := Scalar.select v286 v287 v281
  let c1_i32_204 : BitVec 32 := 1#32
  let v289 : BitVec 32 := Scalar.muli v288 c1_i32_204
  let v290 : BitVec 32 := Scalar.addi c0_i32_205 v289
  v290.toNat
def k0_dev20 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_210 : BitVec 32 := 5#32
  let v299 : BitVec 32 := Scalar.addi v2 c5_i32_210
  let c16_i32_211 : BitVec 32 := 16#32
  let c0_i32_212 : BitVec 32 := 0#32
  let v300 : BitVec 1 := Scalar.cmpi .eq c16_i32_211 c0_i32_212
  let c1_i32_213 : BitVec 32 := 1#32
  let v301 : BitVec 32 := Scalar.select v300 c1_i32_213 c16_i32_211
  let v302 : BitVec 32 := Scalar.remsi v299 v301
  let c0_i32_215 : BitVec 32 := 0#32
  let v304 : BitVec 1 := Scalar.cmpi .slt v302 c0_i32_215
  let c0_i32_216 : BitVec 32 := 0#32
  let v305 : BitVec 1 := Scalar.cmpi .slt v301 c0_i32_216
  let v306 : BitVec 1 := Scalar.xori v304 v305
  let c0_i32_214 : BitVec 32 := 0#32
  let v303 : BitVec 1 := Scalar.cmpi .ne v302 c0_i32_214
  let v307 : BitVec 1 := Scalar.andi v306 v303
  let v308 : BitVec 32 := Scalar.addi v302 v301
  let v309 : BitVec 32 := Scalar.select v307 v308 v302
  let c1_i32_221 : BitVec 32 := 1#32
  let v310 : BitVec 32 := Scalar.muli v309 c1_i32_221
  let v311 : BitVec 32 := Scalar.addi c0_i32_222 v310
  v311.toNat
def k0_dev21 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_227 : BitVec 32 := 6#32
  let v320 : BitVec 32 := Scalar.addi v2 c6_i32_227
  let c16_i32_228 : BitVec 32 := 16#32
  let c0_i32_229 : BitVec 32 := 0#32
  let v321 : BitVec 1 := Scalar.cmpi .eq c16_i32_228 c0_i32_229
  let c1_i32_230 : BitVec 32 := 1#32
  let v322 : BitVec 32 := Scalar.select v321 c1_i32_230 c16_i32_228
  let v323 : BitVec 32 := Scalar.remsi v320 v322
  let c0_i32_232 : BitVec 32 := 0#32
  let v325 : BitVec 1 := Scalar.cmpi .slt v323 c0_i32_232
  let c0_i32_233 : BitVec 32 := 0#32
  let v326 : BitVec 1 := Scalar.cmpi .slt v322 c0_i32_233
  let v327 : BitVec 1 := Scalar.xori v325 v326
  let c0_i32_231 : BitVec 32 := 0#32
  let v324 : BitVec 1 := Scalar.cmpi .ne v323 c0_i32_231
  let v328 : BitVec 1 := Scalar.andi v327 v324
  let v329 : BitVec 32 := Scalar.addi v323 v322
  let v330 : BitVec 32 := Scalar.select v328 v329 v323
  let c1_i32_238 : BitVec 32 := 1#32
  let v331 : BitVec 32 := Scalar.muli v330 c1_i32_238
  let v332 : BitVec 32 := Scalar.addi c0_i32_239 v331
  v332.toNat
def k0_dev22 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_244 : BitVec 32 := 7#32
  let v341 : BitVec 32 := Scalar.addi v2 c7_i32_244
  let c16_i32_245 : BitVec 32 := 16#32
  let c0_i32_246 : BitVec 32 := 0#32
  let v342 : BitVec 1 := Scalar.cmpi .eq c16_i32_245 c0_i32_246
  let c1_i32_247 : BitVec 32 := 1#32
  let v343 : BitVec 32 := Scalar.select v342 c1_i32_247 c16_i32_245
  let v344 : BitVec 32 := Scalar.remsi v341 v343
  let c0_i32_249 : BitVec 32 := 0#32
  let v346 : BitVec 1 := Scalar.cmpi .slt v344 c0_i32_249
  let c0_i32_250 : BitVec 32 := 0#32
  let v347 : BitVec 1 := Scalar.cmpi .slt v343 c0_i32_250
  let v348 : BitVec 1 := Scalar.xori v346 v347
  let c0_i32_248 : BitVec 32 := 0#32
  let v345 : BitVec 1 := Scalar.cmpi .ne v344 c0_i32_248
  let v349 : BitVec 1 := Scalar.andi v348 v345
  let v350 : BitVec 32 := Scalar.addi v344 v343
  let v351 : BitVec 32 := Scalar.select v349 v350 v344
  let c1_i32_255 : BitVec 32 := 1#32
  let v352 : BitVec 32 := Scalar.muli v351 c1_i32_255
  let v353 : BitVec 32 := Scalar.addi c0_i32_256 v352
  v353.toNat
def k0_dev23 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_261 : BitVec 32 := 8#32
  let v362 : BitVec 32 := Scalar.addi v2 c8_i32_261
  let c16_i32_262 : BitVec 32 := 16#32
  let c0_i32_263 : BitVec 32 := 0#32
  let v363 : BitVec 1 := Scalar.cmpi .eq c16_i32_262 c0_i32_263
  let c1_i32_264 : BitVec 32 := 1#32
  let v364 : BitVec 32 := Scalar.select v363 c1_i32_264 c16_i32_262
  let v365 : BitVec 32 := Scalar.remsi v362 v364
  let c0_i32_266 : BitVec 32 := 0#32
  let v367 : BitVec 1 := Scalar.cmpi .slt v365 c0_i32_266
  let c0_i32_267 : BitVec 32 := 0#32
  let v368 : BitVec 1 := Scalar.cmpi .slt v364 c0_i32_267
  let v369 : BitVec 1 := Scalar.xori v367 v368
  let c0_i32_265 : BitVec 32 := 0#32
  let v366 : BitVec 1 := Scalar.cmpi .ne v365 c0_i32_265
  let v370 : BitVec 1 := Scalar.andi v369 v366
  let v371 : BitVec 32 := Scalar.addi v365 v364
  let v372 : BitVec 32 := Scalar.select v370 v371 v365
  let c1_i32_272 : BitVec 32 := 1#32
  let v373 : BitVec 32 := Scalar.muli v372 c1_i32_272
  let v374 : BitVec 32 := Scalar.addi c0_i32_273 v373
  v374.toNat
def k0_dev24 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_278 : BitVec 32 := 9#32
  let v383 : BitVec 32 := Scalar.addi v2 c9_i32_278
  let c16_i32_279 : BitVec 32 := 16#32
  let c0_i32_280 : BitVec 32 := 0#32
  let v384 : BitVec 1 := Scalar.cmpi .eq c16_i32_279 c0_i32_280
  let c1_i32_281 : BitVec 32 := 1#32
  let v385 : BitVec 32 := Scalar.select v384 c1_i32_281 c16_i32_279
  let v386 : BitVec 32 := Scalar.remsi v383 v385
  let c0_i32_283 : BitVec 32 := 0#32
  let v388 : BitVec 1 := Scalar.cmpi .slt v386 c0_i32_283
  let c0_i32_284 : BitVec 32 := 0#32
  let v389 : BitVec 1 := Scalar.cmpi .slt v385 c0_i32_284
  let v390 : BitVec 1 := Scalar.xori v388 v389
  let c0_i32_282 : BitVec 32 := 0#32
  let v387 : BitVec 1 := Scalar.cmpi .ne v386 c0_i32_282
  let v391 : BitVec 1 := Scalar.andi v390 v387
  let v392 : BitVec 32 := Scalar.addi v386 v385
  let v393 : BitVec 32 := Scalar.select v391 v392 v386
  let c1_i32_289 : BitVec 32 := 1#32
  let v394 : BitVec 32 := Scalar.muli v393 c1_i32_289
  let v395 : BitVec 32 := Scalar.addi c0_i32_290 v394
  v395.toNat
def k0_dev25 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_295 : BitVec 32 := 10#32
  let v404 : BitVec 32 := Scalar.addi v2 c10_i32_295
  let c16_i32_296 : BitVec 32 := 16#32
  let c0_i32_297 : BitVec 32 := 0#32
  let v405 : BitVec 1 := Scalar.cmpi .eq c16_i32_296 c0_i32_297
  let c1_i32_298 : BitVec 32 := 1#32
  let v406 : BitVec 32 := Scalar.select v405 c1_i32_298 c16_i32_296
  let v407 : BitVec 32 := Scalar.remsi v404 v406
  let c0_i32_300 : BitVec 32 := 0#32
  let v409 : BitVec 1 := Scalar.cmpi .slt v407 c0_i32_300
  let c0_i32_301 : BitVec 32 := 0#32
  let v410 : BitVec 1 := Scalar.cmpi .slt v406 c0_i32_301
  let v411 : BitVec 1 := Scalar.xori v409 v410
  let c0_i32_299 : BitVec 32 := 0#32
  let v408 : BitVec 1 := Scalar.cmpi .ne v407 c0_i32_299
  let v412 : BitVec 1 := Scalar.andi v411 v408
  let v413 : BitVec 32 := Scalar.addi v407 v406
  let v414 : BitVec 32 := Scalar.select v412 v413 v407
  let c1_i32_306 : BitVec 32 := 1#32
  let v415 : BitVec 32 := Scalar.muli v414 c1_i32_306
  let v416 : BitVec 32 := Scalar.addi c0_i32_307 v415
  v416.toNat
def k0_dev26 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_312 : BitVec 32 := 11#32
  let v425 : BitVec 32 := Scalar.addi v2 c11_i32_312
  let c16_i32_313 : BitVec 32 := 16#32
  let c0_i32_314 : BitVec 32 := 0#32
  let v426 : BitVec 1 := Scalar.cmpi .eq c16_i32_313 c0_i32_314
  let c1_i32_315 : BitVec 32 := 1#32
  let v427 : BitVec 32 := Scalar.select v426 c1_i32_315 c16_i32_313
  let v428 : BitVec 32 := Scalar.remsi v425 v427
  let c0_i32_317 : BitVec 32 := 0#32
  let v430 : BitVec 1 := Scalar.cmpi .slt v428 c0_i32_317
  let c0_i32_318 : BitVec 32 := 0#32
  let v431 : BitVec 1 := Scalar.cmpi .slt v427 c0_i32_318
  let v432 : BitVec 1 := Scalar.xori v430 v431
  let c0_i32_316 : BitVec 32 := 0#32
  let v429 : BitVec 1 := Scalar.cmpi .ne v428 c0_i32_316
  let v433 : BitVec 1 := Scalar.andi v432 v429
  let v434 : BitVec 32 := Scalar.addi v428 v427
  let v435 : BitVec 32 := Scalar.select v433 v434 v428
  let c1_i32_323 : BitVec 32 := 1#32
  let v436 : BitVec 32 := Scalar.muli v435 c1_i32_323
  let v437 : BitVec 32 := Scalar.addi c0_i32_324 v436
  v437.toNat
def k0_dev27 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_329 : BitVec 32 := 12#32
  let v446 : BitVec 32 := Scalar.addi v2 c12_i32_329
  let c16_i32_330 : BitVec 32 := 16#32
  let c0_i32_331 : BitVec 32 := 0#32
  let v447 : BitVec 1 := Scalar.cmpi .eq c16_i32_330 c0_i32_331
  let c1_i32_332 : BitVec 32 := 1#32
  let v448 : BitVec 32 := Scalar.select v447 c1_i32_332 c16_i32_330
  let v449 : BitVec 32 := Scalar.remsi v446 v448
  let c0_i32_334 : BitVec 32 := 0#32
  let v451 : BitVec 1 := Scalar.cmpi .slt v449 c0_i32_334
  let c0_i32_335 : BitVec 32 := 0#32
  let v452 : BitVec 1 := Scalar.cmpi .slt v448 c0_i32_335
  let v453 : BitVec 1 := Scalar.xori v451 v452
  let c0_i32_333 : BitVec 32 := 0#32
  let v450 : BitVec 1 := Scalar.cmpi .ne v449 c0_i32_333
  let v454 : BitVec 1 := Scalar.andi v453 v450
  let v455 : BitVec 32 := Scalar.addi v449 v448
  let v456 : BitVec 32 := Scalar.select v454 v455 v449
  let c1_i32_340 : BitVec 32 := 1#32
  let v457 : BitVec 32 := Scalar.muli v456 c1_i32_340
  let v458 : BitVec 32 := Scalar.addi c0_i32_341 v457
  v458.toNat
def k0_dev28 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_346 : BitVec 32 := 13#32
  let v467 : BitVec 32 := Scalar.addi v2 c13_i32_346
  let c16_i32_347 : BitVec 32 := 16#32
  let c0_i32_348 : BitVec 32 := 0#32
  let v468 : BitVec 1 := Scalar.cmpi .eq c16_i32_347 c0_i32_348
  let c1_i32_349 : BitVec 32 := 1#32
  let v469 : BitVec 32 := Scalar.select v468 c1_i32_349 c16_i32_347
  let v470 : BitVec 32 := Scalar.remsi v467 v469
  let c0_i32_351 : BitVec 32 := 0#32
  let v472 : BitVec 1 := Scalar.cmpi .slt v470 c0_i32_351
  let c0_i32_352 : BitVec 32 := 0#32
  let v473 : BitVec 1 := Scalar.cmpi .slt v469 c0_i32_352
  let v474 : BitVec 1 := Scalar.xori v472 v473
  let c0_i32_350 : BitVec 32 := 0#32
  let v471 : BitVec 1 := Scalar.cmpi .ne v470 c0_i32_350
  let v475 : BitVec 1 := Scalar.andi v474 v471
  let v476 : BitVec 32 := Scalar.addi v470 v469
  let v477 : BitVec 32 := Scalar.select v475 v476 v470
  let c1_i32_357 : BitVec 32 := 1#32
  let v478 : BitVec 32 := Scalar.muli v477 c1_i32_357
  let v479 : BitVec 32 := Scalar.addi c0_i32_358 v478
  v479.toNat
def k0_dev29 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_363 : BitVec 32 := 14#32
  let v488 : BitVec 32 := Scalar.addi v2 c14_i32_363
  let c16_i32_364 : BitVec 32 := 16#32
  let c0_i32_365 : BitVec 32 := 0#32
  let v489 : BitVec 1 := Scalar.cmpi .eq c16_i32_364 c0_i32_365
  let c1_i32_366 : BitVec 32 := 1#32
  let v490 : BitVec 32 := Scalar.select v489 c1_i32_366 c16_i32_364
  let v491 : BitVec 32 := Scalar.remsi v488 v490
  let c0_i32_368 : BitVec 32 := 0#32
  let v493 : BitVec 1 := Scalar.cmpi .slt v491 c0_i32_368
  let c0_i32_369 : BitVec 32 := 0#32
  let v494 : BitVec 1 := Scalar.cmpi .slt v490 c0_i32_369
  let v495 : BitVec 1 := Scalar.xori v493 v494
  let c0_i32_367 : BitVec 32 := 0#32
  let v492 : BitVec 1 := Scalar.cmpi .ne v491 c0_i32_367
  let v496 : BitVec 1 := Scalar.andi v495 v492
  let v497 : BitVec 32 := Scalar.addi v491 v490
  let v498 : BitVec 32 := Scalar.select v496 v497 v491
  let c1_i32_374 : BitVec 32 := 1#32
  let v499 : BitVec 32 := Scalar.muli v498 c1_i32_374
  let v500 : BitVec 32 := Scalar.addi c0_i32_375 v499
  v500.toNat
def k0_dev30 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_380 : BitVec 32 := 15#32
  let v509 : BitVec 32 := Scalar.addi v2 c15_i32_380
  let c16_i32_381 : BitVec 32 := 16#32
  let c0_i32_382 : BitVec 32 := 0#32
  let v510 : BitVec 1 := Scalar.cmpi .eq c16_i32_381 c0_i32_382
  let c1_i32_383 : BitVec 32 := 1#32
  let v511 : BitVec 32 := Scalar.select v510 c1_i32_383 c16_i32_381
  let v512 : BitVec 32 := Scalar.remsi v509 v511
  let c0_i32_385 : BitVec 32 := 0#32
  let v514 : BitVec 1 := Scalar.cmpi .slt v512 c0_i32_385
  let c0_i32_386 : BitVec 32 := 0#32
  let v515 : BitVec 1 := Scalar.cmpi .slt v511 c0_i32_386
  let v516 : BitVec 1 := Scalar.xori v514 v515
  let c0_i32_384 : BitVec 32 := 0#32
  let v513 : BitVec 1 := Scalar.cmpi .ne v512 c0_i32_384
  let v517 : BitVec 1 := Scalar.andi v516 v513
  let v518 : BitVec 32 := Scalar.addi v512 v511
  let v519 : BitVec 32 := Scalar.select v517 v518 v512
  let c1_i32_391 : BitVec 32 := 1#32
  let v520 : BitVec 32 := Scalar.muli v519 c1_i32_391
  let v521 : BitVec 32 := Scalar.addi c0_i32_392 v520
  v521.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Slots.lean ====
/-
# The sixteen slots of a device's gathering buffer

Every device keeps a buffer of sixteen slots, each a pair of rows: the greatest value of a column of its block and the
position of that value. Slot 0 is the device's own; slot `d` receives the pair of the device `d` places before it around
the mesh. Here are the devices at a distance, the semaphores and the slots as the kernel's copies name them, which
elements of the buffer a slot is, and the buffer as a family of slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Transfers
public import Idealize.ShloMosaic.Lib.Tactic

@[expose] public section

set_option maxRecDepth 16384

noncomputable section

namespace Cert.KernelIdealMesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two ghost states: the pipeline's own and the exchange's -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices at a distance -/

set_option backward.proofsInPublic true in
/-- The device `d` places after `c`. -/
def far (c : Dev nD) (d : Fin 16) : Dev nD := ⟨(c.val + d.val) % 16, Nat.mod_lt _ (by decide)⟩
set_option backward.proofsInPublic true in
/-- The device `d` places before `c`. -/
def back (c : Dev nD) (d : Fin 16) : Dev nD := ⟨(c.val + (16 - d.val)) % 16, Nat.mod_lt _ (by decide)⟩
set_option backward.proofsInPublic true in
/-- The distance that leads back. -/
def opp (d : Fin 16) : Fin 16 := ⟨(16 - d.val) % 16, Nat.mod_lt _ (by decide)⟩

theorem far_val (c : Dev nD) (d : Fin 16) : (far c d).val = (c.val + d.val) % 16 := rfl
theorem back_val (c : Dev nD) (d : Fin 16) : (back c d).val = (c.val + (16 - d.val)) % 16 := rfl

theorem back_far (c : Dev nD) (d : Fin 16) : back (far c d) d = c := by
  have h : c.val < 16 := c.isLt
  refine Fin.ext ?_; rw [back_val, far_val]; have := d.isLt; omega
theorem far_back (c : Dev nD) (d : Fin 16) : far (back c d) d = c := by
  have h : c.val < 16 := c.isLt
  refine Fin.ext ?_; rw [far_val, back_val]; have := d.isLt; omega
theorem far_far_opp (c : Dev nD) (d : Fin 16) : far (far c d) (opp d) = c := by
  have h : c.val < 16 := c.isLt
  refine Fin.ext ?_; rw [far_val, far_val]; unfold opp; have := d.isLt; dsimp only; omega
theorem opp_opp (d : Fin 16) : opp (opp d) = d := by
  refine Fin.ext ?_; unfold opp; have := d.isLt; dsimp only; omega
theorem back_zero (c : Dev nD) : back c 0 = c := by
  have h : c.val < 16 := c.isLt
  refine Fin.ext ?_; rw [back_val]; show (c.val + (16 - 0)) % 16 = _; omega
theorem far_inj {c c' : Dev nD} {d : Fin 16} (h : far c d = far c' d) : c = c' := by
  rw [← back_far c d, h, back_far]

/-- The distances from `n` on. -/
def ge (n : ℕ) : Finset (Fin 16) := Finset.univ.filter fun d => n ≤ d.val
/-- The distances at least one and below `n`. -/
def lt (n : ℕ) : Finset (Fin 16) := Finset.univ.filter fun d => 1 ≤ d.val ∧ d.val < n

theorem mem_ge {n : ℕ} {d : Fin 16} : d ∈ ge n ↔ n ≤ d.val := by
  unfold ge; rw [Finset.mem_filter]; exact ⟨fun h => h.2, fun h => ⟨Finset.mem_univ _, h⟩⟩
theorem mem_lt {n : ℕ} {d : Fin 16} : d ∈ lt n ↔ 1 ≤ d.val ∧ d.val < n := by
  unfold lt; rw [Finset.mem_filter]; exact ⟨fun h => h.2, fun h => ⟨Finset.mem_univ _, h⟩⟩
theorem ge_eq (d : Fin 16) : ge d.val = insert d (ge (d.val + 1)) := by
  ext e; rw [Finset.mem_insert, mem_ge, mem_ge]
  exact ⟨fun h => (Nat.eq_or_lt_of_le h).elim (fun h => .inl (Fin.ext h.symm)) .inr,
    fun h => h.elim (fun h => h ▸ Nat.le_refl _) fun h => Nat.le_of_succ_le h⟩
theorem not_mem_ge (d : Fin 16) : d ∉ ge (d.val + 1) := fun h => Nat.lt_irrefl _ (mem_ge.mp h)
theorem lt_eq (d : Fin 16) (h1 : 1 ≤ d.val) : lt (d.val + 1) = insert d (lt d.val) := by
  ext e; rw [Finset.mem_insert, mem_lt, mem_lt]
  constructor
  · rintro ⟨h, h'⟩
    rcases Nat.eq_or_lt_of_le (Nat.le_of_lt_succ h') with h'' | h''
    · exact .inl (Fin.ext h'')
    · exact .inr ⟨h, h''⟩
  · rintro (rfl | ⟨h, h'⟩)
    · exact ⟨h1, Nat.lt_succ_self _⟩
    · exact ⟨h, Nat.lt_succ_of_lt h'⟩
theorem not_mem_lt (d : Fin 16) : d ∉ lt d.val := fun h => Nat.lt_irrefl _ (mem_lt.mp h).2
theorem lt_one : lt 1 = ∅ := by decide
theorem ge_last : ge 16 = ∅ := by decide
theorem lt_last : lt 16 = ge 1 := by decide
theorem ge_zero : ge 0 = Finset.univ := by decide
theorem card_ge_one : (ge 1).card = 15 := by decide
theorem opp_mem {d : Fin 16} (h : d ∈ ge 1) : opp d ∈ ge 1 := by
  rw [mem_ge] at h ⊢; unfold opp; have := d.isLt; dsimp only; omega

/-! ## The semaphores -/

set_option backward.proofsInPublic true in
theorem sem_inb (d : Fin 16) : ∀ a, (![d.val] : Fin 1 → Nat) a + S1.size a ≤ S16.size a := by
  intro a; match a with | ⟨0, _⟩ => exact d.isLt

/-- The runtime's barrier semaphore; the semaphores on which a device's copy to the device `d` places after it is sent
    and on which its slot `d` is received. -/
abbrev barS : Sem sig := (SemArray.scalar (sig.barrier 0 rfl) : Sems sig S_).sem
abbrev sendS (d : Fin 16) : DmaSem sig := ((cc0_scratch1.slice (Rect.unit (s := S16) ![d.val] S1.size (sem_inb d))).squeeze S_ squeezes_S1_S_).sem
abbrev recvS (d : Fin 16) : DmaSem sig := ((cc0_scratch2.slice (Rect.unit (s := S16) ![d.val] S1.size (sem_inb d))).squeeze S_ squeezes_S1_S_).sem

theorem sendS_val : ∀ d : Fin 16, (sendS d).val = 2 + d.val := by decide +kernel
theorem recvS_val : ∀ d : Fin 16, (recvS d).val = 18 + d.val := by decide +kernel

abbrev barCell (c : Dev nD) : GSem nD τ sig := ((c : Thread nD τ), .reg barS)
abbrev sendCell (c : Dev nD) (d : Fin 16) : GSem nD τ sig := ((c : Thread nD τ), .dma (sendS d))
abbrev recvCell (c : Dev nD) (d : Fin 16) : GSem nD τ sig := ((c : Thread nD τ), .dma (recvS d))

/-! ## The slots -/

abbrev xM : Memref sig .tc .vmem S2048x1024 .f32 := Memref.whole cc0_stg0_0
abbrev oM : Memref sig .tc .vmem S2x1024 .f32 := Memref.whole cc0_stg1_0
abbrev bM : Memref sig .tc .vmem S16x2x1024 .f32 := Memref.whole cc0_scratch0

set_option backward.proofsInPublic true in
theorem slot_inb (d : Fin 16) : ∀ a, (![d.val, 0, 0] : Fin 3 → Nat) a + S1x2x1024.size a ≤ S16x2x1024.size a := by
  intro a
  match a with
  | ⟨0, _⟩ => exact d.isLt
  | ⟨1, _⟩ => exact Nat.le_refl 2
  | ⟨2, _⟩ => exact Nat.le_refl 1024

abbrev slotRect (d : Fin 16) : Rect S16x2x1024 := Rect.unit (s := S16x2x1024) ![d.val, 0, 0] S1x2x1024.size (slot_inb d)
/-- Slot `d`, as the copies and the waits name it. -/
abbrev slotM (d : Fin 16) : Memref sig .tc .vmem S2x1024 .f32 :=
  (bM.slice (slotRect d) (fun _ => rfl)).squeeze S2x1024 squeezes_S1x2x1024_S2x1024

/-- The index of the buffer that row `r` and column `j` of slot `d` is. -/
def at3 (d : Fin 16) (r : Fin 2) (j : Fin 1024) : S16x2x1024.Idx := fun a =>
  match a with
  | ⟨0, _⟩ => d
  | ⟨1, _⟩ => r
  | ⟨2, _⟩ => j

theorem slot_emb (d : Fin 16) (x : S2x1024.Idx) : (slotM d).view.emb x = at3 d (x 0) (x 1) := by
  have h : (slotM d).view.emb x
      = (slotRect d).emb (Shape.reshapeEquiv (s := S1x2x1024) (s' := S2x1024) squeezes_S1x2x1024_S2x1024.numel_eq x) := rfl
  rw [h, show Shape.reshapeEquiv (s := S1x2x1024) (s' := S2x1024) squeezes_S1x2x1024_S2x1024.numel_eq x = Fin.cons ⟨0, Nat.one_pos⟩ x from
    Shape.reshapeEquiv_cons_one (n := 2) (d := ![2, 1024]) _ x]
  funext a; apply Fin.ext
  rw [ValueKit.rect_emb_unit_val]
  match a with
  | ⟨0, _⟩ => rfl
  | ⟨1, _⟩ => exact Nat.zero_add _
  | ⟨2, _⟩ => exact Nat.zero_add _

theorem slot_set (d : Fin 16) : (slotM d).view.set = (slotRect d).set := by
  show ((View.whole cc0_scratch0).slice (slotRect d) |>.reshape S2x1024 squeezes_S1x2x1024_S2x1024.numel_eq).set = _
  rw [View.set_reshape, View.set_slice_whole]

theorem mem_slot {d : Fin 16} {i : S16x2x1024.Idx} : i ∈ (slotM d).view.set ↔ i 0 = d := by
  rw [slot_set]
  constructor
  · intro h
    obtain ⟨h1, h2⟩ := (Rect.mem_set_unit.mp h) ⟨0, by decide⟩
    refine Fin.ext ?_
    have h1 : d.val ≤ (i 0).val := h1
    have h2 : (i 0).val < d.val + 1 := h2
    omega
  · intro h
    refine Rect.mem_set_unit.mpr fun a => ?_
    match a with
    | ⟨0, _⟩ =>
      have h0 : (i 0).val = d.val := congrArg Fin.val h
      show d.val ≤ (i 0).val ∧ (i 0).val < d.val + 1
      omega
    | ⟨1, _⟩ => exact ⟨Nat.zero_le _, by show (i 1).val < 0 + 2; have : (i 1).val < 2 := (i 1).isLt; omega⟩
    | ⟨2, _⟩ => exact ⟨Nat.zero_le _, by show (i 2).val < 0 + 1024; have : (i 2).val < 1024 := (i 2).isLt; omega⟩

theorem slots_disjoint (d e : Fin 16) (h : d ≠ e) : Disjoint (slotM d).view.set (slotM e).view.set :=
  Finset.disjoint_left.mpr fun i hi hi' => h ((mem_slot.mp hi).symm.trans (mem_slot.mp hi'))

theorem slots_cover : (Finset.univ : Finset (Fin 16)).biUnion (fun d => (slotM d).view.set) = (Finset.univ : Finset S16x2x1024.Idx) := by
  ext i
  rw [Finset.mem_biUnion]
  exact ⟨fun _ => Finset.mem_univ _, fun _ => ⟨i 0, Finset.mem_univ _, mem_slot.mpr rfl⟩⟩

/-- What a copy of a slot is credited at its two semaphores. -/
abbrev N : ℕ := (slotM 0).view.dmaCredit
theorem N_pos : 0 < N := View.dmaCredit_pos _ (by decide)
theorem slot_credit : ∀ d : Fin 16, (slotM d).view.dmaCredit = N := fun _ => rfl

/-- Slot `d` of device `c`'s buffer, held at share `q` and contents `f` (read at that slot only). -/
def slotPts (c : Dev nD) (d : Fin 16) (q : PosShare TreeShare) (f : (cc0_scratch0 : Ref sig .tc).ty.Contents (Elt F)) : sProp 𝕄 :=
  ((c : Thread nD τ).loc cc0_scratch0) ↦[(slotM d).view.set]{q} f

omit [FloatOps F] in
instance slotPts_storable (c : Dev nD) (d : Fin 16) (q : PosShare TreeShare) (f) : BI.Storable (upEmb : UEmb _ 𝕄) (slotPts (F := F) c d q f) := by
  unfold slotPts; infer_instance

omit [FloatOps F] in
/-- The whole buffer is its sixteen slots. -/
theorem buffer_slots (c : Dev nD) (f : (cc0_scratch0 : Ref sig .tc).ty.Contents (Elt F)) :
    (((c : Thread nD τ).loc cc0_scratch0) ↦{fullShare} f : sProp 𝕄) = bigSep Finset.univ fun d => slotPts c d fullShare f := by
  unfold slotPts
  rw [← pointsTo_biUnion (ℓ := (c : Thread nD τ).loc cc0_scratch0) (q := fullShare) (f := f) (Finset.univ : Finset (Fin 16)) (fun d => (slotM d).view.set)
    (fun d _ e _ h => slots_disjoint d e h)]
  rw [slots_cover]

end Cert.KernelIdealMesh

end
-- ==== Proof.KernelIdeal.Protocol.lean ====
/-
# What the exchange promises

Every device signals the barrier semaphore of the fifteen others, handing each one the slot that the other will write.
It waits for its own fifteen signals, then copies its own pair of rows into a slot of every other device: slot `d` of the
device `d` places after it. Each copy is awaited on the semaphore it was sent on (the sender's share of its own pair comes
back) and on the one it is received on (the slot comes with the pair of the device `d` places before). Here: the contents
that travel, the schedule of the cells, what each device owes at the start, and in which order the cells may be waited on.
-/
module

public import proofs.«01_k».proof.Proof.KernelIdeal.Slots

@[expose] public section

set_option maxRecDepth 16384

noncomputable section

namespace Cert.KernelIdealMesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the start: any contents, every semaphore at zero, any generator registers. -/
def s₀ : MemSt nD τ sig (Elt F) := ⟨m, fun _ => 0, ρ⟩

/-! ## The contents that travel -/

/-- Device `c`'s block as the kernel finds it in its staging buffer. -/
def xstg (c : Dev nD) : (cc0_stg0_0 : Ref sig .tc).ty.Contents (Elt F) :=
  (win0_0.blk (0 : Fin 1)).view.read (Elt F) ((s₀ m ρ).mem ((c : Thread nD τ).loc main_arg0))

/-- The device's number as the kernel computes it. -/
abbrev devWord (c : Dev nD) : BitVec 32 := Scalar.remsi (Scalar.divsi (Dev.word c) 1#32) 16#32

set_option backward.proofsInPublic true in
/-- The index of column `j` of a single row. -/
def rowIdx (j : Fin 1024) : S1x1x1024.Idx := fun a =>
  match a with
  | ⟨0, _⟩ => ⟨0, Nat.one_pos⟩
  | ⟨1, _⟩ => ⟨0, Nat.one_pos⟩
  | ⟨2, _⟩ => j

/-- The pair of rows device `c` sends: the greatest values of its columns, and their positions. -/
def pairOf (c : Dev nD) (r : Fin 2) (j : Fin 1024) : F .f32 :=
  if r.val = 0 then k0_pay2 (xstg m ρ c) (rowIdx j) else k0_pay3 (devWord c) (xstg m ρ c) (rowIdx j)

/-- Device `c`'s buffer when everything has arrived: slot `d` holds the pair of the device `d` places before. -/
def gathered (c : Dev nD) : (cc0_scratch0 : Ref sig .tc).ty.Contents (Elt F) :=
  fun i : S16x2x1024.Idx => pairOf m ρ (back c (i 0)) (i 1) (i 2)

omit [FloatOps F] in
/-- Two contents that agree at a slot are the same holding of it. -/
theorem slotPts_congr (c : Dev nD) (d : Fin 16) (q : PosShare TreeShare) {f g : (cc0_scratch0 : Ref sig .tc).ty.Contents (Elt F)}
    (h : ∀ x : S2x1024.Idx, f ((slotM d).view.emb x) = g ((slotM d).view.emb x)) : (slotPts c d q f : sProp 𝕄) = slotPts c d q g := by
  unfold slotPts
  refine pointsTo_congr fun i hi => ?_
  obtain ⟨x, -, rfl⟩ := Finset.mem_map.mp hi
  exact h x

/-- A copy of device `c`'s own pair into slot `d` of the device `d` places after it leaves there what that device is to
    gather. -/
theorem landed (c : Dev nD) (d : Fin 16) (fd : (cc0_scratch0 : Ref sig .tc).ty.Contents (Elt F)) :
    (slotPts (far c d) d fullShare ((slotM d).view.write (Elt F) fd ((slotM 0).view.read (Elt F) (gathered m ρ c)) Finset.univ) : sProp 𝕄)
      = slotPts (far c d) d fullShare (gathered m ρ (far c d)) := by
  refine slotPts_congr (far c d) d fullShare fun x => ?_
  have h1 : (slotM d).view.read (Elt F) ((slotM d).view.write (Elt F) fd ((slotM 0).view.read (Elt F) (gathered m ρ c)) Finset.univ) x
      = (slotM 0).view.read (Elt F) (gathered m ρ c) x := by
    rw [View.read_write_univ]
  refine (show _ = gathered m ρ c ((slotM 0).view.emb x) from h1).trans ?_
  rw [slot_emb, slot_emb]
  show pairOf m ρ (back c 0) (x 0) (x 1) = pairOf m ρ (back (far c d) d) (x 0) (x 1)
  rw [back_zero, back_far]

/-! ## The schedule -/

/-- What device `far c e` hands device `c` with its barrier signal: its slot `e`, which `c` is to write. -/
def barPay (c : Dev nD) (e : Fin 16) : sProp 𝕄 := iprop(∃ f, slotPts (far c e) e fullShare f)
/-- What arrives with a copy: the slot, holding the sender's pair. -/
def recvPay (c : Dev nD) (d : Fin 16) : sProp 𝕄 := slotPts c d fullShare (gathered m ρ c)
/-- What comes back to the sender: the share of its own pair that the copy read. -/
def sendPay (c : Dev nD) (d : Fin 16) : sProp 𝕄 := slotPts c 0 (Transfers.shareTok fullShare 16 d) (gathered m ρ c)

set_option backward.proofsInPublic true in
/-- The distance a semaphore belongs to. -/
def distOf (s : DmaSem sig) : Fin 16 := ⟨(s.val + 14) % 16, Nat.mod_lt _ (by decide)⟩

/-- One round. A barrier cell has a duty of one unit for each of the fifteen other devices; the send and receive cells of
    the distances one to fifteen have one duty each, of a copy's credit. -/
def meshRd : Rounds.Schedule (GSem nD τ sig) (Fin 16) 𝕄 where
  duties g r := if r = 0 ∧ g.1.2 = .tc then
      match g.2 with
      | .reg _ => ge 1
      | .dma s => if 3 ≤ s.val ∧ s.val ≠ 18 then {0} else ∅
    else ∅
  unitless _ := False
  amount g _ _ := match g.2 with
    | .reg _ => 1
    | .dma _ => N
  payload g _ d := match g.2 with
    | .reg _ => barPay g.1.1 d
    | .dma s => if 18 ≤ s.val then recvPay m ρ g.1.1 (distOf s) else sendPay m ρ g.1.1 (distOf s)
  amount_pos g _ _ _ := by
    rcases g with ⟨_, _ | _⟩
    · exact Nat.one_pos
    · exact N_pos

instance meshRd_payload_storable (g : GSem nD τ sig) (r : ℕ) (d : Fin 16) :
    BI.Storable (upEmb : UEmb _ 𝕄) ((meshRd (F := F) m ρ).payload g r d) := by
  rcases g with ⟨t, s | s⟩
  · show BI.Storable upEmb (barPay t.1 d)
    unfold barPay; infer_instance
  · show BI.Storable upEmb (if 18 ≤ s.val then recvPay m ρ t.1 (distOf s) else sendPay m ρ t.1 (distOf s))
    unfold recvPay sendPay
    split <;> infer_instance

section Tables
variable (c : Dev nD) (d : Fin 16)

theorem dist_send : distOf (sendS d) = d := by
  refine Fin.ext ?_; unfold distOf; have := d.isLt; show ((sendS d).val + 14) % 16 = _; rw [sendS_val]; omega
theorem dist_recv : distOf (recvS d) = d := by
  refine Fin.ext ?_; unfold distOf; have := d.isLt; show ((recvS d).val + 14) % 16 = _; rw [recvS_val]; omega

theorem duties_bar : (meshRd (F := F) m ρ).duties (barCell c) 0 = ge 1 := by dsimp only [meshRd]; rw [if_pos ⟨rfl, rfl⟩]
theorem duties_send (h : d ∈ ge 1) : (meshRd (F := F) m ρ).duties (sendCell c d) 0 = {0} := by
  dsimp only [meshRd]; rw [if_pos ⟨rfl, rfl⟩]; refine if_pos ?_
  have := mem_ge.mp h; have := d.isLt; rw [sendS_val]; omega
theorem duties_recv (h : d ∈ ge 1) : (meshRd (F := F) m ρ).duties (recvCell c d) 0 = {0} := by
  dsimp only [meshRd]; rw [if_pos ⟨rfl, rfl⟩]; refine if_pos ?_
  have := mem_ge.mp h; have := d.isLt; rw [recvS_val]; omega
theorem duties_send_zero (r : ℕ) : (meshRd (F := F) m ρ).duties (sendCell c 0) r = ∅ := by
  dsimp only [meshRd]; split
  · exact if_neg (by rw [sendS_val]; decide)
  · rfl
theorem duties_recv_zero (r : ℕ) : (meshRd (F := F) m ρ).duties (recvCell c 0) r = ∅ := by
  dsimp only [meshRd]; split
  · exact if_neg (by rw [recvS_val]; decide)
  · rfl
theorem duties_later (g : GSem nD τ sig) : ∀ r, 1 ≤ r → (meshRd (F := F) m ρ).duties g r = ∅ :=
  fun r hr => by dsimp only [meshRd]; rw [if_neg fun h => by omega]

theorem amount_bar (e : Fin 16) : (meshRd (F := F) m ρ).amount (barCell c) 0 e = 1 := rfl
theorem amount_send (e : Fin 16) : (meshRd (F := F) m ρ).amount (sendCell c d) 0 e = N := rfl
theorem amount_recv (e : Fin 16) : (meshRd (F := F) m ρ).amount (recvCell c d) 0 e = N := rfl

theorem expect_bar : (meshRd (F := F) m ρ).expect (barCell c) 0 = 15 := by
  unfold Schedule.expect Schedule.amountOf
  rw [duties_bar, Finset.sum_congr rfl fun e _ => amount_bar m ρ c e, Finset.sum_const, card_ge_one, smul_eq_mul]
theorem expect_send (h : d ∈ ge 1) : (meshRd (F := F) m ρ).expect (sendCell c d) 0 = N := by
  unfold Schedule.expect Schedule.amountOf; rw [duties_send m ρ c d h, Finset.sum_singleton, amount_send]
theorem expect_recv (h : d ∈ ge 1) : (meshRd (F := F) m ρ).expect (recvCell c d) 0 = N := by
  unfold Schedule.expect Schedule.amountOf; rw [duties_recv m ρ c d h, Finset.sum_singleton, amount_recv]

theorem payload_bar (e : Fin 16) : (meshRd (F := F) m ρ).payload (barCell c) 0 e = barPay c e := rfl
theorem payload_send (e : Fin 16) : (meshRd (F := F) m ρ).payload (sendCell c d) 0 e = sendPay m ρ c d := by
  dsimp only [meshRd]
  rw [if_neg (by have := d.isLt; rw [sendS_val]; omega), dist_send]
theorem payload_recv (e : Fin 16) : (meshRd (F := F) m ρ).payload (recvCell c d) 0 e = recvPay m ρ c d := by
  dsimp only [meshRd]
  rw [if_pos (by rw [recvS_val]; omega), dist_recv]

theorem rest_bar : bigSep ((meshRd (F := F) m ρ).duties (barCell c) 0 \ ∅) (fun e => (meshRd (F := F) m ρ).payload (barCell c) 0 e) = bigSep (ge 1) fun e => barPay c e := by
  rw [Finset.sdiff_empty, duties_bar]; rfl
theorem rest_send (h : d ∈ ge 1) : bigSep ((meshRd (F := F) m ρ).duties (sendCell c d) 0 \ ∅) (fun e => (meshRd (F := F) m ρ).payload (sendCell c d) 0 e) = sendPay m ρ c d := by
  rw [Finset.sdiff_empty, duties_send m ρ c d h, bigSep_singleton, payload_send]
theorem rest_recv (h : d ∈ ge 1) : bigSep ((meshRd (F := F) m ρ).duties (recvCell c d) 0 \ ∅) (fun e => (meshRd (F := F) m ρ).payload (recvCell c d) 0 e) = recvPay m ρ c d := by
  rw [Finset.sdiff_empty, duties_recv m ρ c d h, bigSep_singleton, payload_recv]

end Tables

/-! ## What a device owes; the order of the waits -/

/-- The signals device `c` has yet to give when it has given those of the distances below `n`; -/
def barDebt (c : Dev nD) (n : ℕ) : CellTallies nD τ sig Unit := (ge n).sum fun d => tallyAt (barCell (far c d)) () 1
/-- the copies it has yet to start, likewise. -/
def recvDebt (c : Dev nD) (n : ℕ) : CellTallies nD τ sig Unit := (ge n).sum fun d => tallyAt (recvCell (far c d) d) () N
def O₀ (c : Dev nD) : CellTallies nD τ sig Unit := recvDebt c 1 + barDebt c 1

theorem barDebt_step (c : Dev nD) (d : Fin 16) : barDebt c d.val = barDebt c (d.val + 1) + tallyAt (barCell (far c d)) () 1 := by
  unfold barDebt; rw [ge_eq, Finset.sum_insert (not_mem_ge d), add_comm]
theorem recvDebt_step (c : Dev nD) (d : Fin 16) : recvDebt c d.val = recvDebt c (d.val + 1) + tallyAt (recvCell (far c d) d) () N := by
  unfold recvDebt; rw [ge_eq, Finset.sum_insert (not_mem_ge d), add_comm]
theorem barDebt_last (c : Dev nD) : barDebt c 16 = 0 := by unfold barDebt; rw [ge_last, Finset.sum_empty]
theorem recvDebt_last (c : Dev nD) : recvDebt c 16 = 0 := by unfold recvDebt; rw [ge_last, Finset.sum_empty]

theorem barDebt_apply (c : Dev nD) (n : ℕ) (g : GSem nD τ sig) (u : Unit) :
    barDebt c n g u = (ge n).sum fun d => (tallyAt (barCell (far c d)) () 1 : CellTallies nD τ sig Unit) g u := by
  unfold barDebt; rw [Finset.sum_apply, Finsupp.finset_sum_apply]
theorem recvDebt_apply (c : Dev nD) (n : ℕ) (g : GSem nD τ sig) (u : Unit) :
    recvDebt c n g u = (ge n).sum fun d => (tallyAt (recvCell (far c d) d) () N : CellTallies nD τ sig Unit) g u := by
  unfold recvDebt; rw [Finset.sum_apply, Finsupp.finset_sum_apply]

theorem barDebt_pos {c : Dev nD} {n : ℕ} {g : GSem nD τ sig} {u : Unit} (h : 0 < barDebt c n g u) : ∃ d, g = barCell (far c d) := by
  rw [barDebt_apply] at h
  obtain ⟨d, -, hd⟩ := Finset.exists_ne_zero_of_sum_ne_zero (Nat.pos_iff_ne_zero.mp h)
  refine ⟨d, ?_⟩
  rw [tallyAt_apply] at hd
  by_contra hn
  exact hd (if_neg fun h' => hn h'.1)
theorem recvDebt_pos {c : Dev nD} {n : ℕ} {g : GSem nD τ sig} {u : Unit} (h : 0 < recvDebt c n g u) : ∃ d, g = recvCell (far c d) d := by
  rw [recvDebt_apply] at h
  obtain ⟨d, -, hd⟩ := Finset.exists_ne_zero_of_sum_ne_zero (Nat.pos_iff_ne_zero.mp h)
  refine ⟨d, ?_⟩
  rw [tallyAt_apply] at hd
  by_contra hn
  exact hd (if_neg fun h' => hn h'.1)
theorem O₀_pos {c : Dev nD} {g : GSem nD τ sig} {u : Unit} (h : 0 < O₀ c g u) :
    (∃ d, g = recvCell (far c d) d) ∨ ∃ d, g = barCell (far c d) := by
  unfold O₀ at h
  rw [Pi.add_apply, Finsupp.add_apply] at h
  rcases Nat.add_pos_iff_pos_or_pos.mp h with h | h
  · exact .inl (recvDebt_pos h)
  · exact .inr (barDebt_pos h)

def L (g : GSem nD τ sig) : Finset Unit := if g.1.2 = .tc then {()} else ∅
/-- Barrier cells at 1, receive cells at 2, the staging and send cells at 0. -/
def lv (g : GSem nD τ sig) (_ : Unit) : ℕ := match g.2 with
  | .reg _ => 1
  | .dma s => if 18 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (d : Fin 16) (u : Unit) : lv (recvCell c d) u = 2 := if_pos (by rw [recvS_val]; omega)

omit [FloatOps F] in
/-- A staging cell may be waited on with everything owed, and with nothing. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact (if_neg (Nat.not_le.mpr hq)).le)
      (fun g u hg => by
        rcases O₀_pos hg with ⟨d, rfl⟩ | ⟨d, rfl⟩
        · rw [lv_recv]; decide
        · rw [lv_bar]; decide)
  · rw [MayWait_zero]; iintro -; iempintro

omit [FloatOps F] in
/-- The barrier may be waited on with the copies still owed. -/
theorem mayWait_bar (c : Dev nD) : (levAts L lv : sProp 𝕄) ⊢ MayWait (c : Thread nD τ) (.reg barS) () (recvDebt c 1) :=
  MayOwe.of_cut (L := L) (lev := lv) 1 (fun p hp => by rw [Finset.mem_singleton.mp hp, L_tc]; exact Finset.mem_singleton_self _)
    (fun g u hg => by obtain ⟨d, rfl⟩ := recvDebt_pos hg; exact Finset.mem_singleton_self _)
    (fun p hp => by rw [Finset.mem_singleton.mp hp]; exact (lv_bar c _).le)
    (fun g u hg => by obtain ⟨d, rfl⟩ := recvDebt_pos hg; rw [lv_recv]; decide)

end Cert.KernelIdealMesh

end
-- ==== Proof.KernelIdeal.Steps.lean ====
/-
# One step of each kind

The kernel does the same four things fifteen times each: a barrier signal, a copy's start, and the two waits for a copy.
Each kind is taken here once, for any distance `d`, as a step from the state in which the distances below `d` are done to
the state in which `d` is done too.
-/
module

public import proofs.«01_k».proof.Proof.KernelIdeal.Protocol

@[expose] public section

set_option maxRecDepth 16384

noncomputable section

namespace Cert.KernelIdealMesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells and what is known of them everywhere -/

/-- A device's cells: the barrier's, the sixteen send cells, the sixteen receive cells. -/
abbrev CK : Type := Unit ⊕ (Fin 16 ⊕ Fin 16)
abbrev osem : Fin 16 ⊕ Fin 16 → SemLoc sig := fun
  | .inl d => .dma (sendS d)
  | .inr d => .dma (recvS d)
abbrev csem : CK → SemLoc sig := fun
  | .inl _ => .reg barS
  | .inr k => osem k
abbrev kcell (ck : Dev nD × CK) : GSem nD τ sig := ((ck.1 : Thread nD τ), csem ck.2)

/-- Every cell's invariant, under the names `K`, and that every cell is at its round 0 or past it. -/
def records (K : Dev nD × CK → ℕ) : sProp 𝕄 :=
  iprop((bigSep Finset.univ fun ck : Dev nD × CK => cellInv ER (meshRd m ρ) (K ck) (kcell ck))
    ∗ bigSep Finset.univ fun ck : Dev nD × CK => reached ER (kcell ck) 0)

instance records_persistent (K : Dev nD × CK → ℕ) : BI.Persistent (records m ρ K) := by unfold records; infer_instance

variable (K : Dev nD × CK → ℕ)

theorem inv_at (ck : Dev nD × CK) :
    (bigSep Finset.univ fun ck : Dev nD × CK => (cellInv ER (meshRd m ρ) (K ck) (kcell ck) : sProp 𝕄)) ⊢ cellInv ER (meshRd m ρ) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)
theorem rec_inv (ck : Dev nD × CK) : records m ρ K ⊢ cellInv ER (meshRd m ρ) (K ck) (kcell ck) := by
  unfold records; iintro ⟨#H, -⟩; iapply (inv_at m ρ K ck); iexact H
theorem rec_reached (ck : Dev nD × CK) : records m ρ K ⊢ reached ER (kcell ck) 0 := by
  unfold records; iintro ⟨-, #H⟩; iapply (reached_at (F := F) ck); iexact H

omit [FloatOps F] in
/-- The first of the remaining distances taken out. -/
theorem ge_peel (d : Fin 16) (Φ : Fin 16 → sProp 𝕄) : bigSep (ge d.val) Φ = iprop(Φ d ∗ bigSep (ge (d.val + 1)) Φ) := by
  rw [ge_eq, bigSep_insert (not_mem_ge d)]; rfl
omit [FloatOps F] in
/-- A distance put to those done. -/
theorem lt_push (d : Fin 16) (h : d ∈ ge 1) (Φ : Fin 16 → sProp 𝕄) : bigSep (lt (d.val + 1)) Φ = iprop(Φ d ∗ bigSep (lt d.val) Φ) := by
  rw [lt_eq d (mem_ge.mp h), bigSep_insert (not_mem_lt d)]; rfl

omit [FloatOps F] in
/-- A held slot, with its place spelled as the copies spell it. -/
theorem slotPts_view (c : Dev nD) (d : Fin 16) (q : PosShare TreeShare) (f : (cc0_scratch0 : Ref sig .tc).ty.Contents (Elt F)) :
    (slotPts c d q f : sProp 𝕄) = ((slotM d).view.loc (c : Thread nD τ) ↦[(slotM d).view.set]{q} f) := rfl

/-! ## The signals -/

/-- What pays the signal to the device `d` places after `c`: its token, and the slot it hands over. -/
def sigTok (c : Dev nD) (d : Fin 16) : sProp 𝕄 :=
  iprop(dutyTok ER (barCell (far c d)) 0 (opp d) ∗ ∃ f, slotPts c (opp d) fullShare f)

/-- The signals of the distances below `n` given. -/
def sigSt (c : Dev nD) (n : ℕ) : sProp 𝕄 :=
  iprop((∃ W, owes (c : Thread nD τ) (recvDebt c 1 + barDebt c n) W) ∗ bigSep (ge n) (sigTok c))

theorem step_sig (c : Dev nD) (d : Fin 16) (hd : d ∈ ge 1) (n : Dev nD) (hn : n = far c d) {k' : ℕ} (hk : 1 = k')
    {α : Type} {Q : α → sProp 𝕄} {k : PUnit → Prog (TpuEff nD τ sig (Elt F) Λ₀ .tc) α} :
    iprop(records m ρ K ∗ sigSt c d.val)
      ⊢ iprop((sigSt c (d.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn
  subst hk
  unfold sigSt
  rw [ge_peel d]
  unfold sigTok
  iintro ⟨#HR, ⟨%W, HO⟩, ⟨HT, ⟨%f, Hs⟩⟩, Hrest⟩ Hk
  iapply (Rounds.wp_signal 𝒱₀ ER (meshRd m ρ) (c : Thread nD τ) none (dst := (far c d : Thread nD τ)) (κ := K (far c d, .inl ()))
      (d := opp d) (by rw [duties_bar]; exact opp_mem hd) (amount_bar m ρ (far c d) (opp d)) () (O₀ := recvDebt c 1 + barDebt c d.val) (recvDebt c 1 + barDebt c (d.val + 1))
      (by rw [barDebt_step c d, add_assoc])) $$ [HO HT Hs]
  · isplitr; · iapply (rec_inv m ρ K (far c d, .inl ())); iexact HR
    isplitl [HO]; · iexact HO
    isplitl [HT]; · iexact HT
    isplitl [Hs]
    · rw [payload_bar]; unfold barPay; rw [far_far_opp]
      iexists f; iexact Hs
    iapply (rec_reached m ρ K (far c d, .inl ())); iexact HR
  iintro HO
  iapply Hk
  isplitl [HO]; · iexists W; iexact HO
  iexact Hrest

/-- The wait for the fifteen signals of the other devices: each hands over the slot this device is to write there. -/
theorem step_bar (c : Dev nD) {k' : ℕ} (hk : 15 = k')
    {α : Type} {Q : α → sProp 𝕄} {k : PUnit → Prog (TpuEff nD τ sig (Elt F) Λ₀ .tc) α} :
    iprop(records m ρ K ∗ levAts L lv ∗ sigSt c 16 ∗ cred (tallyAt (barCell c) () 15) ∗ atPos ER (barCell c) 0 ∅ 0)
      ⊢ iprop((((∃ W, owes (c : Thread nD τ) (recvDebt c 1) W) ∗ semVal (barCell c) 0 ∗ bigSep (ge 1) (barPay c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold sigSt
  rw [barDebt_last, add_zero]
  iintro ⟨#HR, #Hlev, ⟨⟨%W, HO⟩, -⟩, Hc, Hat⟩ Hk
  iapply (Rounds.wp_wait_rest_token 𝒱₀ ER (meshRd m ρ) (c : Thread nD τ) none (κ := K (c, .inl ()))
      (wpE_semWait_eq 𝒱₀ (c : Thread nD τ) none Set.univ) (Set.mem_univ _) () (O := recvDebt c 1) (W := W) (R := 0) (m := 0) (T := ∅)
      (by rw [expect_bar])) $$ [Hc HO Hat]
  · isplitr; · iapply (rec_inv m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (meshRd m ρ) (Set.mem_univ (K (c, .inl ()))) (fun h => h) (R := 0 + 1) (duties_later m ρ (barCell c))) $$ [Hat] with Hz
  · isplitr; · iapply (rec_inv m ρ K (c, .inl ())); iexact HR
    iexact Hat
  iapply Hk
  isplitl [HO]; · iexists _; iexact HO
  isplitl [Hz]; · iexact Hz
  iexact Hp

/-! ## The copies -/

/-- What starts the copy to the device `d` places after `c`: the tokens of its two ends, the slot there, and a share of
    the pair to read. -/
def sendTok (c : Dev nD) (d : Fin 16) : sProp 𝕄 :=
  iprop((dutyTok ER (sendCell c d) 0 0 ∗ dutyTok ER (recvCell (far c d) d) 0 0) ∗ barPay c d ∗ sendPay m ρ c d)

/-- The copies of the distances below `n` started. -/
def sendSt (c : Dev nD) (n : ℕ) : sProp 𝕄 :=
  iprop((∃ W, owes (c : Thread nD τ) (recvDebt c n) W) ∗ bigSep (ge n) (sendTok m ρ c)
    ∗ bigSep (lt n) fun d => cred (tallyAt (sendCell c d) () N))

theorem step_send (c : Dev nD) (d : Fin 16) (hd : d ∈ ge 1) (n : Dev nD) (hn : n = far c d)
    {hsc : (slotM d : Memref sig (Dev.tc n : Thread nD τ).2.kind .vmem S2x1024 .f32).view.ref.isScScratch = false}
    {hsrc : (slotM 0).view.WordExact} {hdst : (slotM d).view.WordExact}
    {hsem : DmaTarget.Typed .vmem (.dma (recvS d)) (.remote (Dev.tc n : Thread nD τ) (slotM d : Memref sig (Dev.tc n : Thread nD τ).2.kind .vmem S2x1024 .f32) (.dma (sendS d)) hsc)}
    {α : Type} {Q : α → sProp 𝕄} {k : PUnit → Prog (TpuEff nD τ sig (Elt F) Λ₀ .tc) α} :
    iprop(records m ρ K ∗ sendSt m ρ c d.val)
      ⊢ iprop((sendSt m ρ c (d.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM d) (.dma (sendS d)) hsc) (.dma (recvS d)) hsrc hdst hsem) k) Q) := by
  subst hn
  unfold sendSt
  rw [ge_peel d, lt_push d hd]
  unfold sendTok barPay sendPay
  iintro ⟨#HR, ⟨%W, HO⟩, ⟨⟨⟨HTs, HTr⟩, ⟨%fd, Hd⟩, Hsrc⟩, Hrest⟩, Hcr⟩ Hk
  iapply (Rounds.wp_send_pointsTo 𝒱₀ ER (meshRd m ρ) (c : Thread nD τ) none (q := Transfers.shareTok fullShare 16 d) (fs := gathered m ρ c) (fd := fd)
    (κ₁ := K (c, .inr (.inl d))) (κ₂ := K (far c d, .inr (.inr d)))
    (r₁ := 0) (r₂ := 0) (d₁ := 0) (d₂ := 0)
    (by rw [duties_send m ρ c d hd]; exact Finset.mem_singleton_self _) (by rw [duties_recv m ρ (far c d) d hd]; exact Finset.mem_singleton_self _)
    () () N (by exact slot_credit d) (by exact amount_send m ρ c d 0) (by exact amount_recv m ρ (far c d) d 0) (recvDebt c (d.val + 1)) (recvDebt_step c d) (W := W)
    (by rw [payload_send]; exact BI.Entails.refl _)
    (by rw [payload_recv]; exact Entails.of_eq (landed m ρ c d fd)) (Es := Set.univ)) $$ [HO HTs HTr Hd Hsrc]
  · isplitr; · iapply (rec_inv m ρ K (c, .inr (.inl d))); iexact HR
    isplitr; · iapply (rec_inv m ρ K (far c d, .inr (.inr d))); iexact HR
    isplitl [Hsrc]; · iapply (Entails.of_eq (slotPts_view c 0 _ _)); iexact Hsrc
    isplitl [Hd]; · iapply (Entails.of_eq (slotPts_view (far c d) d _ _)); iexact Hd
    isplitl [HO]; · iexact HO
    isplitl [HTs]; · iexact HTs
    isplitr; · iapply (rec_reached m ρ K (c, .inr (.inl d))); iexact HR
    isplitl [HTr]; · iexact HTr
    iapply (rec_reached m ρ K (far c d, .inr (.inr d))); iexact HR
  iintro ⟨HcS, HO⟩
  iapply Hk
  isplitl [HO]; · iexists W; iexact HO
  isplitl [Hrest]; · iexact Hrest
  isplitl [HcS]; · iexact HcS
  iexact Hcr

/-! ## The waits for a copy -/

/-- What the two waits of distance `d` take: the credits of the two cells and the positions at them. -/
def waitTok (c : Dev nD) (d : Fin 16) : sProp 𝕄 :=
  iprop(cred (tallyAt (sendCell c d) () N) ∗ cred (tallyAt (recvCell c d) () N) ∗ atPos ER (sendCell c d) 0 ∅ 0 ∗ atPos ER (recvCell c d) 0 ∅ 0)
/-- What they give: the share of the own pair back, the slot with the other device's pair, the two semaphores at zero. -/
def waitGot (c : Dev nD) (d : Fin 16) : sProp 𝕄 :=
  iprop(sendPay m ρ c d ∗ recvPay m ρ c d ∗ semVal (sendCell c d) 0 ∗ semVal (recvCell c d) 0)

/-- The copies of the distances below `n` awaited. -/
def waitSt (c : Dev nD) (n : ℕ) : sProp 𝕄 :=
  iprop((∃ W, owes (c : Thread nD τ) 0 W) ∗ bigSep (ge n) (waitTok c) ∗ bigSep (lt n) (waitGot m ρ c))

theorem step_wait (c : Dev nD) (d : Fin 16) (hd : d ∈ ge 1) {h1 : (slotM 0).view.WordExact} {h2 : (slotM d).view.WordExact} {h1' : (slotM 0).view.WordExact} {h2' : (slotM d).view.WordExact}
    {α : Type} {Q : α → sProp 𝕄} {k : PUnit → Prog (TpuEff nD τ sig (Elt F) Λ₀ .tc) α} :
    iprop(records m ρ K ∗ waitSt m ρ c d.val)
      ⊢ iprop((waitSt m ρ c (d.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS d) (slotM d) (slotM 0) h2 h1) fun _ => .op (.waitDma2 (recvS d) (slotM 0) (slotM d) h1' h2') k) Q) := by
  unfold waitSt
  rw [ge_peel d, lt_push d hd]
  unfold waitTok waitGot
  iintro ⟨#HR, ⟨%W, HO⟩, ⟨⟨HcS, HcV, HatS, HatV⟩, Hrest⟩, Hgot⟩ Hk
  iapply (Rounds.wp_wait_rest_token 𝒱₀ ER (meshRd m ρ) (c : Thread nD τ) none (κ := K (c, .inr (.inl d)))
      (wpE_waitDma2_eq 𝒱₀ (c : Thread nD τ) none Set.univ) (Set.mem_univ _) () (O := 0) (W := W) (R := 0) (m := 0) (T := ∅)
      (by rw [Nat.zero_add, expect_send m ρ c d hd])) $$ [HcS HO HatS]
  · isplitr; · iapply (rec_inv m ρ K (c, .inr (.inl d))); iexact HR
    isplitl [HcS]; · iexact HcS
    isplitl [HO]; · iexact HO
    isplitr; · rw [MayWait_zero]; iempintro
    iexact HatS
  iintro ⟨HO, HatS, -, Hpay⟩
  ihave Hs := (Entails.of_eq (rest_send m ρ c d hd)) $$ Hpay
  iapply (Rounds.wp_wait_rest_token 𝒱₀ ER (meshRd m ρ) (c : Thread nD τ) none (κ := K (c, .inr (.inr d)))
      (wpE_waitDma2_eq 𝒱₀ (c : Thread nD τ) none Set.univ) (Set.mem_univ _) () (O := 0)
      (R := 0) (m := 0) (T := ∅)
      (by rw [Nat.zero_add, expect_recv m ρ c d hd])) $$ [HcV HO HatV]
  · isplitr; · iapply (rec_inv m ρ K (c, .inr (.inr d))); iexact HR
    isplitl [HcV]; · iexact HcV
    isplitl [HO]; · iexact HO
    isplitr; · rw [MayWait_zero]; iempintro
    iexact HatV
  iintro ⟨HO, HatV, -, Hpay⟩
  ihave Hr := (Entails.of_eq (rest_recv m ρ c d hd)) $$ Hpay
  imod (Rounds.cell_close ER (meshRd m ρ) (Set.mem_univ (K (c, .inr (.inl d)))) (fun h => h) (R := 0 + 1) (duties_later m ρ (sendCell c d))) $$ [HatS] with HzS
  · isplitr; · iapply (rec_inv m ρ K (c, .inr (.inl d))); iexact HR
    iexact HatS
  imod (Rounds.cell_close ER (meshRd m ρ) (Set.mem_univ (K (c, .inr (.inr d)))) (fun h => h) (R := 0 + 1) (duties_later m ρ (recvCell c d))) $$ [HatV] with HzV
  · isplitr; · iapply (rec_inv m ρ K (c, .inr (.inr d))); iexact HR
    iexact HatV
  iapply Hk
  isplitl [HO]; · iexists _; iexact HO
  isplitl [Hrest]; · iexact Hrest
  isplitl [Hs Hr HzS HzV]
  · isplitl [Hs]; · iexact Hs
    isplitl [Hr]; · iexact Hr
    isplitl [HzS] <;> iassumption
  iexact Hgot

/-- The two cells of distance zero, which no copy uses, hold their semaphores at zero. -/
theorem idle_close (c : Dev nD) :
    iprop(records m ρ K ∗ atPos ER (sendCell c 0) 0 ∅ 0 ∗ atPos ER (recvCell c 0) 0 ∅ 0)
      ⊢ |={Set.univ}=> iprop(semVal (sendCell c 0) 0 ∗ semVal (recvCell c 0) 0) := by
  iintro ⟨#HR, HatS, HatV⟩
  imod (Rounds.cell_close ER (meshRd m ρ) (Set.mem_univ (K (c, .inr (.inl 0)))) (fun h => h) (R := 0) (fun r _ => duties_send_zero m ρ c r)) $$ [HatS] with HzS
  · isplitr; · iapply (rec_inv m ρ K (c, .inr (.inl 0))); iexact HR
    iexact HatS
  imod (Rounds.cell_close ER (meshRd m ρ) (Set.mem_univ (K (c, .inr (.inr 0)))) (fun h => h) (R := 0) (fun r _ => duties_recv_zero m ρ c r)) $$ [HatV] with HzV
  · isplitr; · iapply (rec_inv m ρ K (c, .inr (.inr 0))); iexact HR
    iexact HatV
  imodintro
  isplitl [HzS] <;> iassumption

end Cert.KernelIdealMesh

end
-- ==== Proof.KernelIdeal.Dats.lean ====
/-
# What a device holds around its body

The pipeline's data (what the staging buffers hold, what is owed), what the device starts its body with, and the facts
about its own slot and its result rows: its two stores leave its pair in slot 0, that slot is dealt into one share for
each copy and joined again, and its last two stores leave the two result rows.
-/
module

public import proofs.«01_k».proof.Proof.KernelIdeal.Steps

@[expose] public section

set_option maxRecDepth 16384

noncomputable section

namespace Cert.KernelIdealMesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the kernel names -/

/-- The device the kernel signals at distance `d`, as it computes it (nothing at distance 0). -/
abbrev sigDev (c : Dev nD) : Fin 16 → Dev nD :=
  ![c, ⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩]
/-- The device it copies to at distance `d`, likewise. -/
abbrev copyDev (c : Dev nD) : Fin 16 → Dev nD :=
  ![c, ⟨k0_dev16 c, k0_dev16_lt c⟩, ⟨k0_dev17 c, k0_dev17_lt c⟩, ⟨k0_dev18 c, k0_dev18_lt c⟩, ⟨k0_dev19 c, k0_dev19_lt c⟩,
    ⟨k0_dev20 c, k0_dev20_lt c⟩, ⟨k0_dev21 c, k0_dev21_lt c⟩, ⟨k0_dev22 c, k0_dev22_lt c⟩, ⟨k0_dev23 c, k0_dev23_lt c⟩,
    ⟨k0_dev24 c, k0_dev24_lt c⟩, ⟨k0_dev25 c, k0_dev25_lt c⟩, ⟨k0_dev26 c, k0_dev26_lt c⟩, ⟨k0_dev27 c, k0_dev27_lt c⟩,
    ⟨k0_dev28 c, k0_dev28_lt c⟩, ⟨k0_dev29 c, k0_dev29_lt c⟩, ⟨k0_dev30 c, k0_dev30_lt c⟩]
theorem sigDev_eq : ∀ (c : Dev nD) (d : Fin 16), sigDev c d = far c d := by decide +kernel
theorem copyDev_eq : ∀ (c : Dev nD) (d : Fin 16), copyDev c d = far c d := by decide +kernel

/-! ## The rectangles of the loads and the stores -/

abbrev rX : Rect S2048x1024 := Rect.unit (s := S2048x1024) ![0, 0] S2048x1024.size inb_S2048x1024_S2048x1024_0_0
abbrev rB0 : Rect S16x2x1024 := Rect.unit (s := S16x2x1024) ![0, 0, 0] S1x1x1024.size inb_S16x2x1024_S1x1x1024_0_0_0
abbrev rB1 : Rect S16x2x1024 := Rect.unit (s := S16x2x1024) ![0, 1, 0] S1x1x1024.size inb_S16x2x1024_S1x1x1024_0_1_0
abbrev rV : Rect S16x2x1024 := Rect.unit (s := S16x2x1024) ![0, 0, 0] S16x1x1024.size inb_S16x2x1024_S16x1x1024_0_0_0
abbrev rI : Rect S16x2x1024 := Rect.unit (s := S16x2x1024) ![0, 1, 0] S16x1x1024.size inb_S16x2x1024_S16x1x1024_0_1_0
abbrev rO0 : Rect S2x1024 := Rect.unit (s := S2x1024) ![0, 0] S1x1024.size inb_S2x1024_S1x1024_0_0
abbrev rO1 : Rect S2x1024 := Rect.unit (s := S2x1024) ![1, 0] S1x1024.size inb_S2x1024_S1x1024_1_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S2048x1024 .f32).view.readAt (Elt F) rX.toLoadRect f = f :=
  Memref.readAt_unit_zero (Elt F) cc0_stg0_0 hz _ f

/-- An index of the buffer's first slot in row 0 is one the first store writes, and one in row 1 the second. -/
theorem at_rB0 (j : Fin 1024) : ((bM : Memref sig .tc .vmem S16x2x1024 .f32).access rB0 : View sig .tc _ _ _).emb (rowIdx j) = at3 0 0 j := by
  funext a; apply Fin.ext
  refine (ValueKit.view_emb_slice_whole_unit_val cc0_scratch0 _ _ _ _ a).trans ?_
  match a with
  | ⟨0, _⟩ => rfl
  | ⟨1, _⟩ => rfl
  | ⟨2, _⟩ => exact Nat.zero_add _
theorem at_rB1 (j : Fin 1024) : ((bM : Memref sig .tc .vmem S16x2x1024 .f32).access rB1 : View sig .tc _ _ _).emb (rowIdx j) = at3 0 1 j := by
  funext a; apply Fin.ext
  refine (ValueKit.view_emb_slice_whole_unit_val cc0_scratch0 _ _ _ _ a).trans ?_
  match a with
  | ⟨0, _⟩ => rfl
  | ⟨1, _⟩ => rfl
  | ⟨2, _⟩ => exact Nat.zero_add _
theorem row_eta (x : S1x1x1024.Idx) : ∃ j, x = rowIdx j := ⟨x 2, by
  funext a
  match a with
  | ⟨0, _⟩ => exact Fin.ext (by have : (x 0).val < 1 := (x 0).isLt; show (x 0).val = 0; omega)
  | ⟨1, _⟩ => exact Fin.ext (by have : (x 1).val < 1 := (x 1).isLt; show (x 1).val = 0; omega)
  | ⟨2, _⟩ => rfl⟩
theorem sub_rB0 : ((bM : Memref sig .tc .vmem S16x2x1024 .f32).access rB0 : View sig .tc _ _ _).set ⊆ (slotM 0).view.set := fun i hi => by
  obtain ⟨x, -, rfl⟩ := Finset.mem_map.mp hi
  obtain ⟨j, rfl⟩ := row_eta x
  rw [at_rB0]; exact mem_slot.mpr rfl
theorem sub_rB1 : ((bM : Memref sig .tc .vmem S16x2x1024 .f32).access rB1 : View sig .tc _ _ _).set ⊆ (slotM 0).view.set := fun i hi => by
  obtain ⟨x, -, rfl⟩ := Finset.mem_map.mp hi
  obtain ⟨j, rfl⟩ := row_eta x
  rw [at_rB1]; exact mem_slot.mpr rfl

/-- The two stores leave the device's own pair in its slot 0. -/
theorem own_stored (c : Dev nD) (f : (cc0_scratch0 : Ref sig .tc).ty.Contents (Elt F)) :
    (((bM : Memref sig .tc .vmem S16x2x1024 .f32).access rB1 : View sig .tc _ _ _).loc (c : Thread nD τ)
        ↦[(slotM 0).view.set]{fullShare} (((bM : Memref sig .tc .vmem S16x2x1024 .f32).access rB1 : View sig .tc _ _ _).write (Elt F)
        (((bM : Memref sig .tc .vmem S16x2x1024 .f32).access rB0 : View sig .tc _ _ _).write (Elt F) f (k0_pay2 (xstg m ρ c)) Finset.univ)
        (k0_pay3 (devWord c) (xstg m ρ c)) Finset.univ) : sProp 𝕄)
      = slotPts c 0 fullShare (gathered m ρ c) := by
  have key : ∀ (r : Fin 2) (j : Fin 1024), ((bM : Memref sig .tc .vmem S16x2x1024 .f32).access rB1 : View sig .tc _ _ _).write (Elt F)
      (((bM : Memref sig .tc .vmem S16x2x1024 .f32).access rB0 : View sig .tc _ _ _).write (Elt F) f (k0_pay2 (xstg m ρ c)) Finset.univ)
      (k0_pay3 (devWord c) (xstg m ρ c)) Finset.univ (at3 0 r j) = pairOf m ρ c r j := fun r j => by
    match r with
    | 0 =>
      rw [View.write_of_not_mem _ _ _ fun h => by
        obtain ⟨y, -, hy⟩ := Finset.mem_map.mp h
        obtain ⟨j', rfl⟩ := row_eta y
        rw [at_rB1] at hy
        have h1 := congrFun hy (⟨1, by decide⟩ : Fin 3)
        exact absurd (show (1 : Fin 2) = 0 from h1) (by decide)]
      rw [← at_rB0, View.write_emb_of_mem _ _ (Finset.mem_univ _)]
      exact (cast_eq _ _).trans (if_pos rfl).symm
    | 1 =>
      rw [← at_rB1, View.write_emb_of_mem _ _ (Finset.mem_univ _)]
      exact (cast_eq _ _).trans (if_neg (by decide)).symm
  refine slotPts_congr c 0 fullShare fun x => ?_
  rw [slot_emb]
  refine (key (x 0) (x 1)).trans ?_
  show _ = pairOf m ρ (back c 0) (x 0) (x 1)
  rw [back_zero]

/-! ## The result -/

/-- The sixteen values and the sixteen positions as the kernel loads them at the end. -/
def vals (c : Dev nD) : FVec F S16x1x1024 .f32 := (bM : Memref sig .tc .vmem S16x2x1024 .f32).view.readAt (Elt F) rV.toLoadRect (gathered m ρ c)
def idxs (c : Dev nD) : FVec F S16x1x1024 .f32 := (bM : Memref sig .tc .vmem S16x2x1024 .f32).view.readAt (Elt F) rI.toLoadRect (gathered m ρ c)

set_option backward.proofsInPublic true in
/-- The index of column `j` of a result row. -/
def colIdx (j : Fin 1024) : S1x1024.Idx := fun a =>
  match a with
  | ⟨0, _⟩ => ⟨0, Nat.one_pos⟩
  | ⟨1, _⟩ => j

/-- The result: the greatest value of each column in row 0, its position in row 1. -/
def outAt (c : Dev nD) : (cc0_stg1_0 : Ref sig .tc).ty.Contents (Elt F) := fun i : S2x1024.Idx =>
  if (i 0).val = 0 then k0_pay5 (vals m ρ c) (colIdx (i 1)) else k0_pay6 (vals m ρ c) (idxs m ρ c) (colIdx (i 1))

def at2 (r : Fin 2) (j : Fin 1024) : S2x1024.Idx := fun a =>
  match a with
  | ⟨0, _⟩ => r
  | ⟨1, _⟩ => j
theorem at2_eta (x : S2x1024.Idx) : x = at2 (x 0) (x 1) := by
  funext a
  match a with
  | ⟨0, _⟩ => rfl
  | ⟨1, _⟩ => rfl
theorem at_rO0 (j : Fin 1024) : ((oM : Memref sig .tc .vmem S2x1024 .f32).access rO0 : View sig .tc _ _ _).emb (colIdx j) = at2 0 j := by
  funext a; apply Fin.ext
  refine (ValueKit.view_emb_slice_whole_unit_val cc0_stg1_0 _ _ _ _ a).trans ?_
  match a with
  | ⟨0, _⟩ => rfl
  | ⟨1, _⟩ => exact Nat.zero_add _
theorem at_rO1 (j : Fin 1024) : ((oM : Memref sig .tc .vmem S2x1024 .f32).access rO1 : View sig .tc _ _ _).emb (colIdx j) = at2 1 j := by
  funext a; apply Fin.ext
  refine (ValueKit.view_emb_slice_whole_unit_val cc0_stg1_0 _ _ _ _ a).trans ?_
  match a with
  | ⟨0, _⟩ => rfl
  | ⟨1, _⟩ => exact Nat.zero_add _
theorem col_eta (x : S1x1024.Idx) : ∃ j, x = colIdx j := ⟨x 1, by
  funext a
  match a with
  | ⟨0, _⟩ => exact Fin.ext (by have : (x 0).val < 1 := (x 0).isLt; show (x 0).val = 0; omega)
  | ⟨1, _⟩ => rfl⟩

/-- The last two stores leave the result, whatever the result's buffer held. -/
theorem out_stored (c : Dev nD) (f : (cc0_stg1_0 : Ref sig .tc).ty.Contents (Elt F)) :
    ((oM : Memref sig .tc .vmem S2x1024 .f32).access rO1 : View sig .tc _ _ _).write (Elt F)
        (((oM : Memref sig .tc .vmem S2x1024 .f32).access rO0 : View sig .tc _ _ _).write (Elt F) f (k0_pay5 (vals m ρ c)) Finset.univ)
        (k0_pay6 (vals m ρ c) (idxs m ρ c)) Finset.univ = outAt m ρ c := by
  have key : ∀ (r : Fin 2) (j : Fin 1024), ((oM : Memref sig .tc .vmem S2x1024 .f32).access rO1 : View sig .tc _ _ _).write (Elt F)
        (((oM : Memref sig .tc .vmem S2x1024 .f32).access rO0 : View sig .tc _ _ _).write (Elt F) f (k0_pay5 (vals m ρ c)) Finset.univ)
        (k0_pay6 (vals m ρ c) (idxs m ρ c)) Finset.univ (at2 r j) = outAt m ρ c (at2 r j) := fun r j => by
    match r with
    | 0 =>
      rw [View.write_of_not_mem _ _ _ fun h => by
        obtain ⟨y, -, hy⟩ := Finset.mem_map.mp h
        obtain ⟨j', rfl⟩ := col_eta y
        rw [at_rO1] at hy
        have h1 := congrFun hy (⟨0, by decide⟩ : Fin 2)
        exact absurd (show (1 : Fin 2) = 0 from h1) (by decide)]
      rw [← at_rO0, View.write_emb_of_mem _ _ (Finset.mem_univ _), at_rO0]
      exact (cast_eq _ _).trans (if_pos rfl).symm
    | 1 =>
      rw [← at_rO1, View.write_emb_of_mem _ _ (Finset.mem_univ _), at_rO1]
      exact (cast_eq _ _).trans (if_neg Nat.one_ne_zero).symm
  refine funext fun (x : S2x1024.Idx) => ?_
  rw [at2_eta x]
  exact key (x 0) (x 1)

/-! ## Shares of the own slot, and the slots by distance -/

omit [FloatOps F] in
/-- The own slot is what is kept of it and a share for each distance. -/
theorem own_dealt (c : Dev nD) (f : (cc0_scratch0 : Ref sig .tc).ty.Contents (Elt F)) :
    (slotPts c 0 fullShare f : sProp 𝕄) ⊢ iprop(slotPts c 0 (Transfers.shareDrop fullShare 16) f
      ∗ bigSep Finset.univ fun d : Fin 16 => slotPts c 0 (Transfers.shareTok fullShare 16 d) f) := by
  unfold slotPts; exact Transfers.pointsTo_toks_split fullShare 16
omit [FloatOps F] in
theorem own_joined (c : Dev nD) (f : (cc0_scratch0 : Ref sig .tc).ty.Contents (Elt F)) :
    iprop(slotPts c 0 (Transfers.shareDrop fullShare 16) f ∗ bigSep Finset.univ fun d : Fin 16 => slotPts c 0 (Transfers.shareTok fullShare 16 d) f)
      ⊢ (slotPts c 0 fullShare f : sProp 𝕄) := by
  unfold slotPts; exact Transfers.pointsTo_toks_join fullShare 16
omit [FloatOps F] in
/-- All distances: zero, and the rest. -/
theorem all_eq (Φ : Fin 16 → sProp 𝕄) : bigSep Finset.univ Φ = iprop(Φ 0 ∗ bigSep (ge 1) Φ) := by
  rw [← ge_zero]; exact ge_peel 0 Φ
theorem opp_injective : Function.Injective opp := fun a b h => by rw [← opp_opp a, h, opp_opp]
theorem opp_map : (ge 1).map ⟨opp, opp_injective⟩ = ge 1 := by decide
omit [FloatOps F] in
/-- The distances taken backwards. -/
theorem opp_eq (Φ : Fin 16 → sProp 𝕄) : bigSep (ge 1) (fun d => Φ (opp d)) = bigSep (ge 1) Φ := by
  conv_rhs => rw [← opp_map, bigSep_map]
  rfl

/-! ## The pipeline's data -/

/-- The tokens of what a device does to others: a signal and a copy at each distance. -/
def tokens (c : Dev nD) : sProp 𝕄 :=
  iprop((bigSep (ge 1) fun d => dutyTok ER (barCell (far c d)) 0 (opp d))
    ∗ (bigSep (ge 1) fun d => dutyTok ER (sendCell c d) 0 0)
    ∗ (bigSep (ge 1) fun d => dutyTok ER (recvCell (far c d) d) 0 0))
/-- Its positions at its own cells. -/
def places (c : Dev nD) : sProp 𝕄 :=
  iprop(atPos ER (barCell c) 0 ∅ 0 ∗ (bigSep Finset.univ fun d : Fin 16 => atPos ER (sendCell c d) 0 ∅ 0)
    ∗ (bigSep Finset.univ fun d : Fin 16 => atPos ER (recvCell c d) 0 ∅ 0))
/-- The credit of what others do to it. -/
def credits (c : Dev nD) : sProp 𝕄 :=
  iprop(cred (tallyAt (barCell c) () 15) ∗ bigSep (ge 1) fun d => cred (tallyAt (recvCell c d) () N))
/-- What a device starts with besides its buffer. -/
def start (c : Dev nD) : sProp 𝕄 :=
  iprop((∃ K, records m ρ K) ∗ (tokens c ∗ places c) ∗ credits c ∗ levAts L lv)

def Φ₀ (c : Dev nD) : sProp 𝕄 := iprop(start m ρ c ∗ ∃ f, (((c : Thread nD τ).loc cc0_scratch0) ↦{fullShare} f))
/-- What it ends with: its buffer and every semaphore at zero. -/
def Φ₁ (c : Dev nD) : sProp 𝕄 :=
  iprop((((c : Thread nD τ).loc cc0_scratch0) ↦{fullShare} (gathered m ρ c))
    ∗ ((bigSep Finset.univ fun d : Fin 16 => semVal (sendCell c d) 0) ∗ (bigSep Finset.univ fun d : Fin 16 => semVal (recvCell c d) 0))
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealMesh

end
-- ==== Proof.KernelIdeal.Body.lean ====
/-
# The body on one device

The kernel's body, operation by operation in program order: the fifteen signals, the device's own pair stored in its
slot, the wait at the barrier, the fifteen copies, the fifteen pairs of waits, and the two result rows. Each repeated
operation is one use of its step.
-/
module

public import proofs.«01_k».proof.Proof.KernelIdeal.Dats

@[expose] public section

set_option maxRecDepth 16384

noncomputable section

namespace Cert.KernelIdealMesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Around the repeated operations -/

section Body

variable (K : Dev nD × CK → ℕ)

omit [FloatOps F] in
theorem slots_some (c : Dev nD) (f : (cc0_scratch0 : Ref sig .tc).ty.Contents (Elt F)) :
    (bigSep (ge 1) fun d => (slotPts c (opp d) fullShare f : sProp 𝕄)) ⊢ bigSep (ge 1) fun d => iprop(∃ f, slotPts c (opp d) fullShare f) :=
  bigSep_mono fun d _ => by
    show (slotPts c (opp d) fullShare f : sProp 𝕄) ⊢ iprop(∃ f, slotPts c (opp d) fullShare f)
    iintro H; iexists f; iexact H

theorem sig_start (c : Dev nD) (W : Waits sig Unit) (f : (cc0_scratch0 : Ref sig .tc).ty.Contents (Elt F)) :
    iprop(owes (c : Thread nD τ) (O₀ c) W ∗ (bigSep (ge 1) fun d => dutyTok ER (barCell (far c d)) 0 (opp d)) ∗ bigSep (ge 1) fun d => slotPts c d fullShare f)
      ⊢ (sigSt c 1 : sProp 𝕄) := by
  unfold sigSt O₀
  rw [show (sigTok c : Fin 16 → sProp 𝕄) = fun d => iprop(dutyTok ER (barCell (far c d)) 0 (opp d) ∗ ∃ f, slotPts c (opp d) fullShare f) from rfl, bigSep_sep',
    ← opp_eq (fun d => slotPts c d fullShare f)]
  iintro ⟨HO, HT, HS⟩
  isplitl [HO]; · iexists W; iexact HO
  isplitl [HT]; · iexact HT
  iapply (slots_some c f); iexact HS

theorem send_start (c : Dev nD) :
    iprop((∃ W, owes (c : Thread nD τ) (recvDebt c 1) W) ∗ ((bigSep (ge 1) fun d => dutyTok ER (sendCell c d) 0 0) ∗ (bigSep (ge 1) fun d => dutyTok ER (recvCell (far c d) d) 0 0))
        ∗ bigSep (ge 1) (barPay c) ∗ bigSep (ge 1) fun d => slotPts c 0 (Transfers.shareTok fullShare 16 d) (gathered m ρ c))
      ⊢ (sendSt m ρ c 1 : sProp 𝕄) := by
  unfold sendSt
  rw [show (sendTok m ρ c : Fin 16 → sProp 𝕄) = fun d => iprop((dutyTok ER (sendCell c d) 0 0 ∗ dutyTok ER (recvCell (far c d) d) 0 0) ∗ barPay c d ∗ sendPay m ρ c d) from rfl,
    bigSep_sep', bigSep_sep', bigSep_sep', lt_one, bigSep_empty]
  iintro ⟨HO, ⟨HT1, HT2⟩, HB, HS⟩
  isplitl [HO]; · iexact HO
  isplitr []
  · isplitl [HT1 HT2]
    · isplitl [HT1] <;> iassumption
    isplitl [HB]; · iexact HB
    iexact HS
  iempintro

theorem wait_start (c : Dev nD) :
    iprop(sendSt m ρ c 16 ∗ (bigSep (ge 1) fun d => cred (tallyAt (recvCell c d) () N))
        ∗ (bigSep (ge 1) fun d : Fin 16 => atPos ER (sendCell c d) 0 ∅ 0) ∗ (bigSep (ge 1) fun d : Fin 16 => atPos ER (recvCell c d) 0 ∅ 0))
      ⊢ (waitSt m ρ c 1 : sProp 𝕄) := by
  unfold sendSt waitSt
  rw [show (waitTok c : Fin 16 → sProp 𝕄) = fun d => iprop(cred (tallyAt (sendCell c d) () N) ∗ cred (tallyAt (recvCell c d) () N) ∗ atPos ER (sendCell c d) 0 ∅ 0 ∗ atPos ER (recvCell c d) 0 ∅ 0) from rfl,
    bigSep_sep', bigSep_sep', bigSep_sep', lt_one, bigSep_empty, ge_last, bigSep_empty, lt_last, recvDebt_last]
  iintro ⟨⟨HO, -, Hc⟩, Hr, HS, HV⟩
  isplitl [HO]; · iexact HO
  isplitr []
  · isplitl [Hc]; · iexact Hc
    isplitl [Hr]; · iexact Hr
    isplitl [HS] <;> iassumption
  iempintro

/-- Everything back: nothing owed, the whole buffer holding every pair, the used semaphores at zero. -/
theorem wait_end (c : Dev nD) :
    iprop(waitSt m ρ c 16 ∗ slotPts c 0 (Transfers.shareDrop fullShare 16) (gathered m ρ c) ∗ slotPts c 0 (Transfers.shareTok fullShare 16 (0 : Fin 16)) (gathered m ρ c))
      ⊢ (iprop((∃ W, owes (c : Thread nD τ) 0 W) ∗ (((c : Thread nD τ).loc cc0_scratch0) ↦{fullShare} (gathered m ρ c))
          ∗ (bigSep (ge 1) fun d : Fin 16 => semVal (sendCell c d) 0) ∗ (bigSep (ge 1) fun d : Fin 16 => semVal (recvCell c d) 0)) : sProp 𝕄) := by
  unfold waitSt
  rw [show (waitGot m ρ c : Fin 16 → sProp 𝕄) = fun d => iprop(sendPay m ρ c d ∗ recvPay m ρ c d ∗ semVal (sendCell c d) 0 ∗ semVal (recvCell c d) 0) from rfl,
    lt_last, bigSep_sep', bigSep_sep', bigSep_sep', buffer_slots, all_eq (fun d => slotPts c d fullShare (gathered m ρ c))]
  iintro ⟨⟨HO, -, ⟨Hs, Hr, HzS, HzV⟩⟩, Hdrop, Htok⟩
  isplitl [HO]; · iexact HO
  isplitl [Hs Hr Hdrop Htok]
  · isplitl [Hs Hdrop Htok]
    · iapply (own_joined c (gathered m ρ c))
      isplitl [Hdrop]; · iexact Hdrop
      rw [all_eq (fun d => slotPts c 0 (Transfers.shareTok fullShare 16 d) (gathered m ρ c))]
      isplitl [Htok]; · iexact Htok
      iexact Hs
    iexact Hr
  isplitl [HzS] <;> iassumption

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m ρ K ∗ (tokens c ∗ places c) ∗ credits c ∗ levAts L lv ∗ ∃ f, (((c : Thread nD τ).loc cc0_scratch0) ↦{fullShare} f))
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

set_option maxHeartbeats 8000000 in
/-- The body, operation by operation. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]
  unfold cc0_body_skel
  simp only [k0_part26_eq_skeleton]
  unfold k0_part26_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton]
  simp only [k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel,
    k0_part15_skel, k0_part16_skel, k0_part17_skel, k0_part18_skel, k0_part19_skel, k0_part20_skel, k0_part21_skel,
    k0_part22_skel, k0_part23_skel, k0_part24_skel, k0_part25_skel,
    semSignalWord, semWaitWord, Prog.lift, Prog.bind_op, Prog.bind_ret, Prog.pure_eq_ret, wp_deviceId]
  unfold bodyPre tokens places credits
  iintro ⟨⟨⟨#HR, ⟨⟨HTbar, HTsend⟩, HatB, HatS, HatV⟩, ⟨HcB, HcV⟩, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  -- the slots, and the positions of the cells no copy uses, apart from the others
  ihave Hscr := (Entails.of_eq ((buffer_slots c f0).trans (all_eq _))) $$ Hscr
  icases Hscr with ⟨Hown, Hslots⟩
  ihave HatS := (Entails.of_eq (all_eq _)) $$ HatS
  icases HatS with ⟨HatS0, HatS⟩
  ihave HatV := (Entails.of_eq (all_eq _)) $$ HatV
  icases HatV with ⟨HatV0, HatV⟩
  -- the signals
  ihave HS := (sig_start c W f0) $$ [HO HTbar Hslots]
  · isplitl [HO]; · iexact HO
    isplitl [HTbar] <;> iassumption
  iapply (step_sig m ρ K c 1 (by decide) _ (sigDev_eq c 1) rfl) $$ [HS]
  · isplitr; · iexact HR
    iexact HS
  iintro HS
  iapply (step_sig m ρ K c 2 (by decide) _ (sigDev_eq c 2) rfl) $$ [HS]
  · isplitr; · iexact HR
    iexact HS
  iintro HS
  iapply (step_sig m ρ K c 3 (by decide) _ (sigDev_eq c 3) rfl) $$ [HS]
  · isplitr; · iexact HR
    iexact HS
  iintro HS
  iapply (step_sig m ρ K c 4 (by decide) _ (sigDev_eq c 4) rfl) $$ [HS]
  · isplitr; · iexact HR
    iexact HS
  iintro HS
  iapply (step_sig m ρ K c 5 (by decide) _ (sigDev_eq c 5) rfl) $$ [HS]
  · isplitr; · iexact HR
    iexact HS
  iintro HS
  iapply (step_sig m ρ K c 6 (by decide) _ (sigDev_eq c 6) rfl) $$ [HS]
  · isplitr; · iexact HR
    iexact HS
  iintro HS
  iapply (step_sig m ρ K c 7 (by decide) _ (sigDev_eq c 7) rfl) $$ [HS]
  · isplitr; · iexact HR
    iexact HS
  iintro HS
  iapply (step_sig m ρ K c 8 (by decide) _ (sigDev_eq c 8) rfl) $$ [HS]
  · isplitr; · iexact HR
    iexact HS
  iintro HS
  iapply (step_sig m ρ K c 9 (by decide) _ (sigDev_eq c 9) rfl) $$ [HS]
  · isplitr; · iexact HR
    iexact HS
  iintro HS
  iapply (step_sig m ρ K c 10 (by decide) _ (sigDev_eq c 10) rfl) $$ [HS]
  · isplitr; · iexact HR
    iexact HS
  iintro HS
  iapply (step_sig m ρ K c 11 (by decide) _ (sigDev_eq c 11) rfl) $$ [HS]
  · isplitr; · iexact HR
    iexact HS
  iintro HS
  iapply (step_sig m ρ K c 12 (by decide) _ (sigDev_eq c 12) rfl) $$ [HS]
  · isplitr; · iexact HR
    iexact HS
  iintro HS
  iapply (step_sig m ρ K c 13 (by decide) _ (sigDev_eq c 13) rfl) $$ [HS]
  · isplitr; · iexact HR
    iexact HS
  iintro HS
  iapply (step_sig m ρ K c 14 (by decide) _ (sigDev_eq c 14) rfl) $$ [HS]
  · isplitr; · iexact HR
    iexact HS
  iintro HS
  iapply (step_sig m ρ K c 15 (by decide) _ (sigDev_eq c 15) rfl) $$ [HS]
  · isplitr; · iexact HR
    iexact HS
  iintro HS
  -- the device's block, and its own pair stored in slot 0
  iapply (wp_load 𝒱₀ (c : Thread nD τ) none Set.univ (m := xM) (Finset.subset_univ _)) $$ Hx; iintro Hx
  rw [read_x]
  unfold slotPts
  iapply (wp_load_rect 𝒱₀ (c : Thread nD τ) none Set.univ (m := bM) (r := rB0) sub_rB0) $$ Hown; iintro Hown
  iapply (wp_store 𝒱₀ (c : Thread nD τ) none Set.univ (m := bM) (r := rB0) (Mk := Finset.univ) sub_rB0) $$ Hown; iintro Hown
  iapply (wp_load_rect 𝒱₀ (c : Thread nD τ) none Set.univ (m := bM) (r := rB1) sub_rB1) $$ Hown; iintro Hown
  iapply (wp_store 𝒱₀ (c : Thread nD τ) none Set.univ (m := bM) (r := rB1) (Mk := Finset.univ) sub_rB1) $$ Hown; iintro Hown
  ihave Hown := (Entails.of_eq (own_stored m ρ c f0)) $$ Hown
  ihave Hown := (own_dealt c (gathered m ρ c)) $$ Hown
  icases Hown with ⟨Hdrop, Htoks⟩
  ihave Htoks := (Entails.of_eq (all_eq _)) $$ Htoks
  icases Htoks with ⟨Htok0, Htoks⟩
  -- the wait at the barrier
  iapply (step_bar m ρ K c rfl) $$ [HS HcB HatB]
  · isplitr; · iexact HR
    isplitr; · iexact Hlev
    isplitl [HS]; · iexact HS
    isplitl [HcB] <;> iassumption
  iintro ⟨HO, HzB, Hpay⟩
  -- the copies
  ihave HS := (send_start m ρ c) $$ [HO HTsend Hpay Htoks]
  · isplitl [HO]; · iexact HO
    isplitl [HTsend]; · iexact HTsend
    isplitl [Hpay] <;> iassumption
  iapply (step_send m ρ K c 1 (by decide) _ (copyDev_eq c 1)) $$ [HS]
  · isplitr; · iexact HR
    iexact HS
  iintro HS
  iapply (step_send m ρ K c 2 (by decide) _ (copyDev_eq c 2)) $$ [HS]
  · isplitr; · iexact HR
    iexact HS
  iintro HS
  iapply (step_send m ρ K c 3 (by decide) _ (copyDev_eq c 3)) $$ [HS]
  · isplitr; · iexact HR
    iexact HS
  iintro HS
  iapply (step_send m ρ K c 4 (by decide) _ (copyDev_eq c 4)) $$ [HS]
  · isplitr; · iexact HR
    iexact HS
  iintro HS
  iapply (step_send m ρ K c 5 (by decide) _ (copyDev_eq c 5)) $$ [HS]
  · isplitr; · iexact HR
    iexact HS
  iintro HS
  iapply (step_send m ρ K c 6 (by decide) _ (copyDev_eq c 6)) $$ [HS]
  · isplitr; · iexact HR
    iexact HS
  iintro HS
  iapply (step_send m ρ K c 7 (by decide) _ (copyDev_eq c 7)) $$ [HS]
  · isplitr; · iexact HR
    iexact HS
  iintro HS
  iapply (step_send m ρ K c 8 (by decide) _ (copyDev_eq c 8)) $$ [HS]
  · isplitr; · iexact HR
    iexact HS
  iintro HS
  iapply (step_send m ρ K c 9 (by decide) _ (copyDev_eq c 9)) $$ [HS]
  · isplitr; · iexact HR
    iexact HS
  iintro HS
  iapply (step_send m ρ K c 10 (by decide) _ (copyDev_eq c 10)) $$ [HS]
  · isplitr; · iexact HR
    iexact HS
  iintro HS
  iapply (step_send m ρ K c 11 (by decide) _ (copyDev_eq c 11)) $$ [HS]
  · isplitr; · iexact HR
    iexact HS
  iintro HS
  iapply (step_send m ρ K c 12 (by decide) _ (copyDev_eq c 12)) $$ [HS]
  · isplitr; · iexact HR
    iexact HS
  iintro HS
  iapply (step_send m ρ K c 13 (by decide) _ (copyDev_eq c 13)) $$ [HS]
  · isplitr; · iexact HR
    iexact HS
  iintro HS
  iapply (step_send m ρ K c 14 (by decide) _ (copyDev_eq c 14)) $$ [HS]
  · isplitr; · iexact HR
    iexact HS
  iintro HS
  iapply (step_send m ρ K c 15 (by decide) _ (copyDev_eq c 15)) $$ [HS]
  · isplitr; · iexact HR
    iexact HS
  iintro HS
  -- the waits
  ihave HS := (wait_start m ρ c) $$ [HS HcV HatS HatV]
  · isplitl [HS]; · iexact HS
    isplitl [HcV]; · iexact HcV
    isplitl [HatS] <;> iassumption
  iapply (step_wait m ρ K c 1 (by decide)) $$ [HS]
  · isplitr; · iexact HR
    iexact HS
  iintro HS
  iapply (step_wait m ρ K c 2 (by decide)) $$ [HS]
  · isplitr; · iexact HR
    iexact HS
  iintro HS
  iapply (step_wait m ρ K c 3 (by decide)) $$ [HS]
  · isplitr; · iexact HR
    iexact HS
  iintro HS
  iapply (step_wait m ρ K c 4 (by decide)) $$ [HS]
  · isplitr; · iexact HR
    iexact HS
  iintro HS
  iapply (step_wait m ρ K c 5 (by decide)) $$ [HS]
  · isplitr; · iexact HR
    iexact HS
  iintro HS
  iapply (step_wait m ρ K c 6 (by decide)) $$ [HS]
  · isplitr; · iexact HR
    iexact HS
  iintro HS
  iapply (step_wait m ρ K c 7 (by decide)) $$ [HS]
  · isplitr; · iexact HR
    iexact HS
  iintro HS
  iapply (step_wait m ρ K c 8 (by decide)) $$ [HS]
  · isplitr; · iexact HR
    iexact HS
  iintro HS
  iapply (step_wait m ρ K c 9 (by decide)) $$ [HS]
  · isplitr; · iexact HR
    iexact HS
  iintro HS
  iapply (step_wait m ρ K c 10 (by decide)) $$ [HS]
  · isplitr; · iexact HR
    iexact HS
  iintro HS
  iapply (step_wait m ρ K c 11 (by decide)) $$ [HS]
  · isplitr; · iexact HR
    iexact HS
  iintro HS
  iapply (step_wait m ρ K c 12 (by decide)) $$ [HS]
  · isplitr; · iexact HR
    iexact HS
  iintro HS
  iapply (step_wait m ρ K c 13 (by decide)) $$ [HS]
  · isplitr; · iexact HR
    iexact HS
  iintro HS
  iapply (step_wait m ρ K c 14 (by decide)) $$ [HS]
  · isplitr; · iexact HR
    iexact HS
  iintro HS
  iapply (step_wait m ρ K c 15 (by decide)) $$ [HS]
  · isplitr; · iexact HR
    iexact HS
  iintro HS
  ihave HS := (wait_end m ρ c) $$ [HS Hdrop Htok0]
  · isplitl [HS]; · iexact HS
    isplitl [Hdrop] <;> iassumption
  icases HS with ⟨⟨%W', HO⟩, Hscr, HzS, HzV⟩
  imod (idle_close m ρ K c) $$ [HatS0 HatV0] with Hz0
  · isplitr; · iexact HR
    isplitl [HatS0] <;> iassumption
  icases Hz0 with ⟨HzS0, HzV0⟩
  -- the result
  iapply (wp_load 𝒱₀ (c : Thread nD τ) none Set.univ (m := bM) (Finset.subset_univ _)) $$ Hscr; iintro Hscr
  iapply (wp_load 𝒱₀ (c : Thread nD τ) none Set.univ (m := bM) (Finset.subset_univ _)) $$ Hscr; iintro Hscr
  iapply (wp_load 𝒱₀ (c : Thread nD τ) none Set.univ (m := oM) (Finset.subset_univ _)) $$ Hout; iintro Hout
  iapply (wp_store 𝒱₀ (c : Thread nD τ) none Set.univ (m := oM) (r := rO0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := rO1) (Mk := Finset.univ) (Finset.subset_univ _)) $$ Hout; iintro Hout
  rw [wp_ret]; imodintro
  iapply Hk
  unfold bodyPost Φ₁ Dat.owesAt Pipeline.owesWithin
  rw [show (dats m ρ 0 c).owed t0_0.succ = 0 from rfl, all_eq (fun d => semVal (sendCell c d) 0), all_eq (fun d => semVal (recvCell c d) 0)]
  isplitl [Hscr HzS HzV HzS0 HzV0 HzB]
  · isplitl [Hscr]; · iexact Hscr
    isplitr [HzB]
    · isplitl [HzS HzS0]
      · isplitl [HzS0] <;> iassumption
      isplitl [HzV0] <;> iassumption
    iexact HzB
  isplitl [HO]
  · iexists W'
    isplitr; · ipureintro; exact fun _ _ => Or.inl trivial
    iexact HO
  isplitl [Hx]
  · iexists _; isplitr; · (ipureintro; rfl)
    iexact Hx
  iexists _; isplitr; · (ipureintro; exact out_stored m ρ c g1)
  iexact Hout

end Body

end Cert.KernelIdealMesh

end
-- ==== Proof.KernelIdeal.Launch.lean ====
/-
# The launch

The whole program on the sixteen devices: the cells and tokens the launch mints, each token dealt to the device that
pays with it, the credit a device starts with, and the run itself, which ends with every device's result at `outAt`.
-/
module

public import proofs.«01_k».proof.Proof.KernelIdeal.Body
public import Idealize.ShloMosaic.Lib.Pipeline.CollectiveSegs

@[expose] public section

set_option maxRecDepth 16384

noncomputable section

namespace Cert.KernelIdealMesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

set_option maxRecDepth 65536 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, HR⟩, Hg, Hc, Hl⟩, Hscr⟩, Ho, Hx, Hout⟩
  iapply (sound_body m ρ K c fun _ => bodyPost m ρ c)
  unfold bodyPre
  isplitr []
  · isplitl [HR Hg Hc Hl Hscr]
    · isplitl [HR]; · iexact HR
      isplitl [Hg]; · iexact Hg
      isplitl [Hc]; · iexact Hc
      isplitl [Hl]; · iexact Hl
      iexact Hscr
    isplitl [Ho]; · iexact Ho
    isplitl [Hx] <;> iassumption
  · iintro H; iexact H

/-! ## The cells and the tokens -/

theorem ownSemFacts : Pipeline.OwnSemFacts cfg0.spec osem := by decide +kernel

theorem share_eq (c : Dev nD) (w : Fin cfg0.W) : (dats m ρ 0 c).share w = fullShare := by unfold Dat.share; split <;> rfl

theorem osem_injective : Function.Injective osem := by
  rintro (d | d) (e | e) h
  · have h1 : (sendS d).val = (sendS e).val := congrArg Fin.val (SemLoc.dma.inj h)
    rw [sendS_val, sendS_val] at h1
    exact congrArg Sum.inl (Fin.ext (by omega))
  · have h1 : (sendS d).val = (recvS e).val := congrArg Fin.val (SemLoc.dma.inj h)
    rw [sendS_val, recvS_val] at h1
    have := d.isLt
    omega
  · have h1 : (recvS d).val = (sendS e).val := congrArg Fin.val (SemLoc.dma.inj h)
    rw [sendS_val, recvS_val] at h1
    have := e.isLt
    omega
  · have h1 : (recvS d).val = (recvS e).val := congrArg Fin.val (SemLoc.dma.inj h)
    rw [recvS_val, recvS_val] at h1
    exact congrArg Sum.inr (Fin.ext (by omega))
theorem csem_injective : Function.Injective csem := by
  rintro (⟨⟩ | k) (⟨⟩ | k') h
  · rfl
  · rcases k' with d | d <;> exact absurd h (fun h' => by cases h')
  · rcases k with d | d <;> exact absurd h (fun h' => by cases h')
  · exact congrArg Sum.inr (osem_injective h)
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def meshCells : Finset (GSem nD τ sig) := Finset.univ.map ⟨kcell, kcell_injective⟩

/-- The duties of a device's cells: sixteen at its barrier, one at each send and at each receive cell. -/
abbrev TK : Type := Fin 16 ⊕ (Fin 16 ⊕ Fin 16)
abbrev tokCell : TK → CK := fun
  | .inl _ => .inl ()
  | .inr k => .inr k
abbrev tokDuty : TK → Fin 16 := fun
  | .inl e => e
  | .inr _ => 0
abbrev tokOf (cj : Dev nD × TK) : GSem nD τ sig × ℕ × Fin 16 := (kcell (cj.1, tokCell cj.2), 0, tokDuty cj.2)
theorem tokOf_injective : Function.Injective tokOf := by
  rintro ⟨c, j⟩ ⟨c', j'⟩ h
  have h1 := kcell_injective (congrArg Prod.fst h)
  have h2 : tokDuty j = tokDuty j' := congrArg (fun x : GSem nD τ sig × ℕ × Fin 16 => x.2.2) h
  have h3 : c = c' := congrArg Prod.fst h1
  have h4 : tokCell j = tokCell j' := congrArg Prod.snd h1
  rw [h3]
  refine congrArg _ ?_
  rcases j with e | k <;> rcases j' with e' | k'
  · exact congrArg Sum.inl h2
  · cases h4
  · cases h4
  · exact congrArg Sum.inr (Sum.inr.inj h4)
def meshToks : Finset (GSem nD τ sig × ℕ × Fin 16) := Finset.univ.map ⟨tokOf, tokOf_injective⟩

def u₀ : UU :=
  (initOf (Pipeline.cells cfgs cellOf_inj) (Pipeline.launchToks cfgs cellOf_inj), initOf meshCells meshToks)

/-- The tokens of device `c`'s own cells. -/
def toks (c : Dev nD) : sProp 𝕄 :=
  iprop((bigSep Finset.univ fun e : Fin 16 => dutyTok ER (barCell c) 0 e)
    ∗ (bigSep Finset.univ fun d : Fin 16 => dutyTok ER (sendCell c d) 0 0)
    ∗ (bigSep Finset.univ fun d : Fin 16 => dutyTok ER (recvCell c d) 0 0))

omit [FloatOps F] in
/-- A device's cells, kind by kind, -/
theorem ck_eq (Φ : CK → sProp 𝕄) : bigSep Finset.univ Φ = iprop(Φ (.inl ()) ∗ (bigSep Finset.univ fun d => Φ (.inr (.inl d))) ∗ bigSep Finset.univ fun d => Φ (.inr (.inr d))) := by
  rw [bigSep_univ_sum, bigSep_univ_sum, show (Finset.univ : Finset Unit) = {()} from rfl, bigSep_singleton]; rfl
omit [FloatOps F] in
/-- and their tokens. -/
theorem tk_eq (Φ : TK → sProp 𝕄) : bigSep Finset.univ Φ = iprop((bigSep Finset.univ fun e => Φ (.inl e)) ∗ (bigSep Finset.univ fun d => Φ (.inr (.inl d))) ∗ bigSep Finset.univ fun d => Φ (.inr (.inr d))) := by
  rw [bigSep_univ_sum, bigSep_univ_sum]; rfl

/-- What the launch deals device `c`; -/
def G (c : Dev nD) : sProp 𝕄 :=
  iprop((bigSep Finset.univ fun k : CK => roundState ER (meshRd m ρ) (kcell (c, k)) 0)
    ∗ (bigSep Finset.univ fun k : CK => iprop(atPos ER (kcell (c, k)) 0 ∅ 0 ∗ reached ER (kcell (c, k)) 0)) ∗ toks c)
/-- what the global step makes of it. -/
def G' (c : Dev nD) : sProp 𝕄 := iprop((∃ K, records m ρ K) ∗ tokens c ∗ places c)

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [tk_eq]; rfl
  iintro HX
  imod (Rounds.fund ER (meshRd m ρ) meshCells meshToks) $$ HX with ⟨Hst, Hr, Hat, Htok⟩
  imodintro
  ihave Hst' := (Entails.of_eq (hX fun g => roundState ER (meshRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the send and the receive ones, -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 16 => semVal (sendCell c d) 0) ∗ (bigSep Finset.univ fun d : Fin 16 => semVal (recvCell c d) 0)) := by
  unfold Pipeline.ownSems0; rw [bigSep_univ_sum]; rfl
omit [FloatOps F] in
/-- and the barrier's is the one it does not own. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, ck_eq]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (meshRd m ρ) (kcell (c, k)) 0)
      ⊢ (|={Set.univ}=> bigSep Finset.univ fun k => iprop(∃ κ : ℕ, cellInv ER (meshRd m ρ) κ (kcell (c, k))) : sProp 𝕄) from by
        rw [← bigSep_sep']
        exact (bigSep_mono fun k _ => (Rounds.body_intro ER (meshRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the mesh -/

/-- A barrier token goes to the device that signals with it, -/
def dealBar : Dev nD × Fin 16 ≃ Dev nD × Fin 16 where
  toFun x := (far x.1 x.2, opp x.2)
  invFun x := (far x.1 x.2, opp x.2)
  left_inv x := Prod.ext (far_far_opp x.1 x.2) (opp_opp x.2)
  right_inv x := Prod.ext (far_far_opp x.1 x.2) (opp_opp x.2)
/-- a receive token to the device that copies there. -/
def dealRecv : Dev nD × Fin 16 ≃ Dev nD × Fin 16 where
  toFun x := (far x.1 x.2, x.2)
  invFun x := (back x.1 x.2, x.2)
  left_inv x := Prod.ext (back_far x.1 x.2) rfl
  right_inv x := Prod.ext (far_back x.1 x.2) rfl

omit [FloatOps F] in
/-- A family over the devices and the distances, dealt by a bijection, at the distances in use. -/
theorem dealt (e : Dev nD × Fin 16 ≃ Dev nD × Fin 16) (Φ : Dev nD × Fin 16 → sProp 𝕄) :
    (bigSep Finset.univ fun c => bigSep Finset.univ fun d => Φ (c, d)) ⊢ bigSep Finset.univ fun c => bigSep (ge 1) fun d => Φ (e (c, d)) := by
  rw [← bigSep_univ_prod Φ, bigSep_univ_equiv e Φ, bigSep_univ_prod]
  exact bigSep_mono fun c _ => bigSep_subset (Finset.subset_univ _)

omit [FloatOps F] in
theorem deal_bar : (bigSep Finset.univ fun c : Dev nD => bigSep Finset.univ fun e : Fin 16 => (dutyTok ER (barCell c) 0 e : sProp 𝕄))
    ⊢ bigSep Finset.univ fun c : Dev nD => bigSep (ge 1) fun d => dutyTok ER (barCell (far c d)) 0 (opp d) :=
  dealt dealBar fun x => dutyTok ER (barCell x.1) 0 x.2
omit [FloatOps F] in
theorem deal_send : (bigSep Finset.univ fun c : Dev nD => bigSep Finset.univ fun d : Fin 16 => (dutyTok ER (sendCell c d) 0 0 : sProp 𝕄))
    ⊢ bigSep Finset.univ fun c : Dev nD => bigSep (ge 1) fun d => dutyTok ER (sendCell c d) 0 0 :=
  dealt (Equiv.refl _) fun x => dutyTok ER (sendCell x.1 x.2) 0 0
omit [FloatOps F] in
theorem deal_recv : (bigSep Finset.univ fun c : Dev nD => bigSep Finset.univ fun d : Fin 16 => (dutyTok ER (recvCell c d) 0 0 : sProp 𝕄))
    ⊢ bigSep Finset.univ fun c : Dev nD => bigSep (ge 1) fun d => dutyTok ER (recvCell (far c d) d) 0 0 :=
  dealt dealRecv fun x => dutyTok ER (recvCell x.1 x.2) 0 0

omit [FloatOps F] in
theorem toks_around : (bigSep Finset.univ fun c : Dev nD => (toks c : sProp 𝕄)) ⊢ bigSep Finset.univ fun c : Dev nD => tokens c := by
  unfold toks tokens
  rw [bigSep_sep', bigSep_sep', bigSep_sep', bigSep_sep']
  iintro ⟨H1, H2, H3⟩
  isplitl [H1]; · iapply (deal_bar (F := F)); iexact H1
  isplitl [H2]; · iapply (deal_send (F := F)); iexact H2
  iapply (deal_recv (F := F)); iexact H3

theorem ghost_intro (K : Dev nD × CK → ℕ) (c : Dev nD) :
    iprop(records m ρ K ∗ (bigSep Finset.univ fun k : CK => (atPos ER (kcell (c, k)) 0 ∅ 0 : sProp 𝕄)) ∗ tokens c) ⊢ G' m ρ c := by
  unfold G' places
  rw [ck_eq]
  iintro ⟨HR, Hat, Ht⟩
  isplitl [HR]; · iexists K; iexact HR
  isplitl [Ht]; · iexact Ht
  iexact Hat

theorem regroup :
    (bigSep Finset.univ fun c : Dev nD => iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (meshRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (meshRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at the start -/

theorem recv_ne_bar (c c' : Dev nD) (d : Fin 16) : recvCell c d ≠ barCell c' := fun h => by cases congrArg Prod.snd h
theorem bar_eq_iff {a b : Dev nD} : Iff (barCell a = barCell b) (a = b) :=
  ⟨fun h => congrArg (fun g : GSem nD τ sig => g.1.1) h, fun h => h ▸ rfl⟩
theorem recv_eq_iff {a b : Dev nD} {d e : Fin 16} : Iff (recvCell a d = recvCell b e) (a = b ∧ d = e) :=
  ⟨fun h => ⟨congrArg (fun g : GSem nD τ sig => g.1.1) h, by
      have h2 := osem_injective (a₁ := .inr d) (a₂ := .inr e) (congrArg Prod.snd h)
      exact Sum.inr.inj h2⟩, fun h => by rw [h.1, h.2]⟩
theorem eq_far_iff {c p : Dev nD} {d : Fin 16} : Iff (c = far p d) (p = back c d) :=
  ⟨fun h => by rw [h, back_far], fun h => by rw [h, far_back]⟩

theorem owed_bar (p c : Dev nD) : O₀ p (barCell c) () = (ge 1).sum fun d => if p = back c d then 1 else 0 := by
  have h0 : recvDebt p 1 (barCell c) () = 0 := Nat.eq_zero_of_not_pos fun h => by
    obtain ⟨d, hd⟩ := recvDebt_pos h
    exact recv_ne_bar _ _ _ hd.symm
  unfold O₀
  rw [Pi.add_apply, Finsupp.add_apply, h0, Nat.zero_add, barDebt_apply]
  refine Finset.sum_congr rfl fun d _ => ?_
  rw [tallyAt_apply]
  exact if_congr ⟨fun h => eq_far_iff.mp (bar_eq_iff.mp h.1), fun h => ⟨bar_eq_iff.mpr (eq_far_iff.mpr h), rfl⟩⟩ rfl rfl
theorem owed_recv (p c : Dev nD) (d : Fin 16) :
    O₀ p (recvCell c d) () = (ge 1).sum fun e => if p = back c e then (if d = e then N else 0) else 0 := by
  have h0 : barDebt p 1 (recvCell c d) () = 0 := Nat.eq_zero_of_not_pos fun h => by
    obtain ⟨e, he⟩ := barDebt_pos h
    exact recv_ne_bar _ _ _ he
  unfold O₀
  rw [Pi.add_apply, Finsupp.add_apply, h0, Nat.add_zero, recvDebt_apply]
  refine Finset.sum_congr rfl fun e _ => ?_
  rw [tallyAt_apply]
  by_cases h1 : p = back c e
  · rw [if_pos h1]
    exact if_congr ⟨fun h => (recv_eq_iff.mp h.1).2, fun h => ⟨recv_eq_iff.mpr ⟨eq_far_iff.mpr h1, h⟩, rfl⟩⟩ rfl rfl
  · rw [if_neg h1]
    exact if_neg fun h => h1 (eq_far_iff.mp (recv_eq_iff.mp h.1).1)

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun p _ => owed_bar p c, Finset.sum_comm,
    Finset.sum_congr rfl fun d _ => (Finset.sum_ite_eq' Finset.univ (back c d) fun _ => 1).trans (if_pos (Finset.mem_univ _)),
    Finset.sum_const, card_ge_one, smul_eq_mul]
theorem launch_recv (c : Dev nD) (d : Fin 16) (hd : d ∈ ge 1) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun p _ => owed_recv p c d, Finset.sum_comm,
    Finset.sum_congr rfl fun e _ => (Finset.sum_ite_eq' Finset.univ (back c e) fun _ => if d = e then N else 0).trans (if_pos (Finset.mem_univ _)),
    Finset.sum_ite_eq (ge 1) d fun _ => N, if_pos hd]

/-- The receive semaphores in use. -/
def recvLocs : Finset (SemLoc sig) := (ge 1).map ⟨fun d => .dma (recvS d), fun d e h => Sum.inr.inj (osem_injective (a₁ := .inr d) (a₂ := .inr e) h)⟩

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  have hsub : recvLocs ⊆ Finset.univ.erase (SemLoc.reg barS) := fun sm h => by
    obtain ⟨d, -, rfl⟩ := Finset.mem_map.mp h
    exact Finset.mem_erase.mpr ⟨(fun h' : SemLoc.dma (recvS d) = SemLoc.reg barS => by cases h'), Finset.mem_univ _⟩
  refine (bigSep_subset hsub).trans ?_
  unfold recvLocs
  rw [bigSep_map]
  exact Entails.of_eq (bigSep_congr fun d hd => congrArg cred (launch_recv c d hd))

/-! ## The sides of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  icases HG with ⟨HR, HT⟩
  isplitl
  · isplitl [HR]; · iexact HR
    isplitl [HT]; · iexact HT
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, Hz, HzB⟩
  isplitl [HzB]; · iexact HzB
  isplitl [Hz]; · iexact Hz
  iexists (gathered m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory whose counters are all zero, every fair execution on the sixteen devices ends, with each device's
    arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealMesh

end
-- ==== Proof.Reference.lean ====
/-
# The run of the reference

The reference is one straight line of array operations on a single device. It ends with its argument as it was and its
result at `stacked` of the argument: the greatest element of each column in the first row, and in the second the row
at which the column's arg-max reduction finds it, converted to a float.
-/
module

public import proofs.«01_k».proof.Proof.Gen.ReferenceIdeal
public import Idealize.ShloMosaic.Lib.StableHlo.Run
public import Idealize.ShloMosaic.Lib.StableHlo.RunHlo
public import Idealize.ShloMosaic.Lib.Quiescent

@[expose] public section

set_option maxRecDepth 16384

noncomputable section

namespace Cert.ReferenceRun

open Cert.ReferenceIdeal Cert.ReferenceIdeal.Gen
open Idealize.ShloMosaic Idealize.ShloMosaic.TcCoe Idealize.ShloMosaic.StableHlo Idealize.SL.Sem

variable {F : FTy → Type} [FloatOps F]

/-- The word of negative infinity, as the scalar every maximum starts from. -/
def lowest : FVec F S_ .f32 := constant S_ .f32 0xFF800000#32

/-- The greatest element of each column. -/
def best (x : FVec F S32768x1024 .f32) : FVec F S1024 .f32 :=
  Host.reduce FloatOps.maximumf x lowest reducesTo_S32768x1024_S1024_d0 h_S_

/-- The row the arg-max reduction answers for each column. -/
def found (x : FVec F S32768x1024 .f32) : IVec S1024 32 := fun j =>
  (Host.argReduce reducer_argmax_f32_i32 x (iotaInDim S32768x1024 32 0) lowest (constantI S_ 32 0#32)
    reducesTo_S32768x1024_S1024_d0 h_S_ j).2

/-- The two rows of the result. -/
def stacked (x : FVec F S32768x1024 .f32) : FVec F S2x1024 .f32 :=
  concatenate S2x1024 0 [⟨S1x1024, broadcastInDim S1x1024 ![1] bcast_S1024_S1x1024_1 (best x)⟩,
    ⟨S1x1024, broadcastInDim S1x1024 ![1] bcast_S1024_S1x1024_1 (sitofp .f32 (found x))⟩] concatenates_S1x1024_S1x1024_S2x1024_d0

/-- The operations of the program, in order: the arg-max's five, then the six of the main function. -/
abbrev line : List (HloOp τ sig (Elt F)) :=
  [ TRef.nullary (.of main_call0_v0) (iotaInDim S32768x1024 32 0),
    TRef.nullary (.of main_call0_cst) (constant S_ .f32 0xFF800000#32),
    TRef.nullary (.of main_call0_c) (constantI S_ 32 0#32),
    TRef.quaternary (.of main_arg0) (.of main_call0_v0) (.of main_call0_cst) (.of main_call0_c) (.of main_call0_v1_0)
      (fun x y u v j => (Host.argReduce reducer_argmax_f32_i32 x y u v reducesTo_S32768x1024_S1024_d0 h_S_ j).1),
    TRef.quaternary (.of main_arg0) (.of main_call0_v0) (.of main_call0_cst) (.of main_call0_c) (.of main_v0)
      (fun x y u v j => (Host.argReduce reducer_argmax_f32_i32 x y u v reducesTo_S32768x1024_S1024_d0 h_S_ j).2),
    unary main_v0 main_v1 (sitofp .f32),
    nullary main_cst (constant S_ .f32 0xFF800000#32),
    binary main_arg0 main_cst main_v2 (fun x v => Host.reduce FloatOps.maximumf x v reducesTo_S32768x1024_S1024_d0 h_S_),
    unary main_v2 main_v3 (broadcastInDim S1x1024 ![1] bcast_S1024_S1x1024_1),
    unary main_v1 main_v4 (broadcastInDim S1x1024 ![1] bcast_S1024_S1x1024_1),
    binary main_v3 main_v4 main_v5 (fun a b => concatenate S2x1024 0 [⟨S1x1024, a⟩, ⟨S1x1024, b⟩] concatenates_S1x1024_S1x1024_S2x1024_d0) ]

theorem main_line (c : Dev nD) : IsSeq (main (F := F) c) line := rfl
theorem line_sub : (line (F := F)).Forall fun op => op.bufs ⊆ tcRefs τ sig := by simp
theorem line_fresh : ∀ op ∈ line (F := F), op.fresh = ∅ := by
  intro _ h; (repeat (cases h with | head => rfl | tail _ h => ?_)); exact nomatch h

/-- What the line leaves in the result's buffer, -/
theorem line_result (V : Valuation τ sig (Elt F)) : after line V (main_v5 : DevRef τ sig) = stacked (V (main_arg0 : DevRef τ sig)) := by
  after_results
  rfl
/-- and in the argument's. -/
theorem line_argument (V : Valuation τ sig (Elt F)) : after line V (main_arg0 : DevRef τ sig) = V (main_arg0 : DevRef τ sig) := by
  after_results

/-- From any memory with every counter at zero, the reference ends with its result at `stacked` of its argument, its
    argument as it was, and every counter at zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v5) = stacked (m ((c.tc : Thread nD τ).loc main_arg0))
        ∧ r.2.mem ((c.tc : Thread nD τ).loc main_arg0) = m ((c.tc : Thread nD τ).loc main_arg0)) ∧ r.2.sem = fun _ => 0 := by
  exact θ_run_mono (run_hlo _ _ main_line (by decide) (by decide) line_sub line_fresh m ρ) fun r h =>
    ⟨fun c => ⟨(h c main_v5).trans (line_result _), (h c main_arg0).trans (line_argument _)⟩,
      Idealize.ShloMosaic.sem_eq_zero_of_no_sems (by decide) r.2⟩

end Cert.ReferenceRun

end
-- ==== Proof.Order.lean ====
/-
# Greatest elements and where they first occur

A column is a family of extended reals. Its greatest element bounds the family and occurs in it; a place is first for a
value when it holds that value and no earlier place does. Both are unique, so two computations of them agree as soon
as each is shown to have the property.
-/
module

public import proofs.«01_k».proof.Proof.Gen.ReferenceIdeal
public import Idealize.ShloMosaic.PureOps.Ideal
public import Idealize.ShloMosaic.PureOps.Ideal.Laws
public import Idealize.ShloMosaic.Lib.WordCmp

@[expose] public section

noncomputable section

namespace Cert.Columns

open Idealize.ShloMosaic

/-- The value bounds the family and occurs in it. -/
def Greatest {ι : Type} (f : ι → EReal) (v : EReal) : Prop := (∀ i, f i ≤ v) ∧ ∃ i, f i = v

theorem Greatest.unique {ι : Type} {f : ι → EReal} {v w : EReal} (hv : Greatest f v) (hw : Greatest f w) : v = w := by
  obtain ⟨i, hi⟩ := hv.2
  obtain ⟨j, hj⟩ := hw.2
  exact le_antisymm (hi ▸ hw.1 i) (hj ▸ hv.1 j)

/-- Folding the maximum from the bottom over a family with a member gives the greatest. -/
theorem greatest_fold {ι : Type} [Fintype ι] [Nonempty ι] (f : ι → EReal) :
    Greatest f ((Finset.univ : Finset ι).fold max (⊥ : EReal) f) := by
  refine ⟨fun i => (Finset.le_fold_max _).2 (.inr ⟨i, Finset.mem_univ i, le_rfl⟩), ?_⟩
  obtain ⟨i, -, hi⟩ := Finset.exists_max_image (Finset.univ : Finset ι) f Finset.univ_nonempty
  exact ⟨i, le_antisymm ((Finset.le_fold_max _).2 (.inr ⟨i, Finset.mem_univ i, le_rfl⟩))
    ((Finset.fold_max_le _).2 ⟨bot_le, hi⟩)⟩

/-- The place holds the value and none before it does. -/
def First {n : Nat} (f : Fin n → EReal) (v : EReal) (k : Fin n) : Prop := f k = v ∧ ∀ i, f i = v → k ≤ i

theorem First.unique {n : Nat} {f : Fin n → EReal} {v : EReal} {k l : Fin n} (hk : First f v k) (hl : First f v l) : k = l :=
  le_antisymm (hk.2 l hl.1) (hl.2 k hk.1)

/-! ## The pairwise arg-max

The reference keeps a value and an index, and of two such pairs the one with the greater value, at equal values the one
with the lesser index. -/

/-- A pair yields to another of greater value, or of the same value and an index no greater. -/
def Yields (a b : EReal × BitVec 32) : Prop := a.1 < b.1 ∨ (a.1 = b.1 ∧ b.2.toInt ≤ a.2.toInt)

theorem Yields.refl (a : EReal × BitVec 32) : Yields a a := .inr ⟨rfl, le_rfl⟩

theorem Yields.trans {a b c : EReal × BitVec 32} (h : Yields a b) (h' : Yields b c) : Yields a c := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The reference's step keeps one of the two pairs. -/
theorem step_spec (a b : EReal × BitVec 32) :
    Cert.ReferenceIdeal.reducer_argmax_f32_i32 (F := Ideal) a b = a ∧ Yields b a
      ∨ Cert.ReferenceIdeal.reducer_argmax_f32_i32 (F := Ideal) a b = b ∧ Yields a b := by
  obtain ⟨x, i⟩ := a
  obtain ⟨y, j⟩ := b
  have hred : Cert.ReferenceIdeal.reducer_argmax_f32_i32 (F := Ideal) (x, i) (y, j)
      = (if (decide (y < x) || false) = true then x else y,
          if ((decide (y < x) || false) || (decide (x = y) && i.slt j)) = true then i else j) := by
    have hb : ∀ p q r : Bool, ∀ {α β : Type} (u v : α) (u' v' : β),
        (Scalar.select (IntOp.ori (BitVec.ofBool p) (BitVec.ofBool false)) u v,
          Scalar.select (IntOp.ori (IntOp.ori (BitVec.ofBool p) (BitVec.ofBool false)) (IntOp.andi (BitVec.ofBool q) (BitVec.ofBool r))) u' v')
        = (if (p || false) = true then u else v, if ((p || false) || (q && r)) = true then u' else v') := by
      intro p q r α β u v u' v'
      cases p <;> cases q <;> cases r <;> rfl
    refine Eq.trans ?_ (hb (decide (y < x)) (decide (x = y)) (i.slt j) x y i j)
    have hx : decide (x ≠ x) = false := decide_eq_false (fun h => h rfl)
    rw [← hx]
    rfl
  rw [hred]
  by_cases h : y < x
  · left
    simp only [h, decide_true, Bool.or_false, Bool.true_or, if_true, true_and]
    exact .inl h
  · by_cases e : x = y
    · by_cases hi : i.slt j = true
      · left
        subst e
        simp only [h, hi, decide_true, decide_false, Bool.or_false, Bool.false_or, Bool.and_true, Bool.false_eq_true, if_false, if_true, true_and]
        exact .inr ⟨rfl, (BitVec.slt_iff_toInt_lt.1 hi).le⟩
      · right
        subst e
        simp only [h, hi, decide_true, decide_false, Bool.or_false, Bool.false_or, Bool.and_false, Bool.true_and, Bool.false_eq_true, if_false, true_and]
        exact .inr ⟨rfl, not_lt.1 fun hl => hi (BitVec.slt_iff_toInt_lt.2 hl)⟩
    · right
      simp only [h, e, decide_false, Bool.or_false, Bool.false_and, Bool.false_eq_true, if_false, true_and]
      exact .inl (lt_of_le_of_ne (not_lt.1 h) e)

/-- Folded over a list, the step ends at the start or at a pair of the list, and both yield to it. -/
theorem fold_spec (L : List (EReal × BitVec 32)) : ∀ a : EReal × BitVec 32,
    (L.foldl (Cert.ReferenceIdeal.reducer_argmax_f32_i32 (F := Ideal)) a = a
      ∨ L.foldl (Cert.ReferenceIdeal.reducer_argmax_f32_i32 (F := Ideal)) a ∈ L)
    ∧ Yields a (L.foldl (Cert.ReferenceIdeal.reducer_argmax_f32_i32 (F := Ideal)) a)
    ∧ ∀ p ∈ L, Yields p (L.foldl (Cert.ReferenceIdeal.reducer_argmax_f32_i32 (F := Ideal)) a) := by
  induction L with
  | nil => exact fun a => ⟨.inl rfl, Yields.refl a, fun p hp => absurd hp List.not_mem_nil⟩
  | cons q L ih =>
    intro a
    rw [List.foldl_cons]
    rcases step_spec a q with ⟨e, hy⟩ | ⟨e, hy⟩ <;> rw [e]
    · obtain ⟨hin, ha, hL⟩ := ih a
      refine ⟨hin.imp_right (List.mem_cons_of_mem q), ha, fun p hp => ?_⟩
      rcases List.mem_cons.1 hp with rfl | hp
      · exact hy.trans ha
      · exact hL p hp
    · obtain ⟨hin, hq, hL⟩ := ih q
      refine ⟨.inr ?_, hy.trans hq, fun p hp => ?_⟩
      · rcases hin with hin | hin
        · rw [hin]; exact List.mem_cons_self
        · exact List.mem_cons_of_mem q hin
      · rcases List.mem_cons.1 hp with rfl | hp
        · exact hq
        · exact hL p hp

/-- Folded over the members of a family each with its place, the step ends at the first place of the greatest. -/
theorem fold_first {n : Nat} (hn : 0 < n) (hw : n ≤ 2147483648) (f : Fin n → EReal) (v : EReal) (hv : Greatest f v)
    (L : List (EReal × BitVec 32)) (hL : ∀ p, p ∈ L ↔ ∃ r : Fin n, p = (f r, BitVec.ofNat 32 r.val)) :
    ∃ k : Fin n, First f v k
      ∧ (L.foldl (Cert.ReferenceIdeal.reducer_argmax_f32_i32 (F := Ideal)) ((⊥ : EReal), 0#32)).2.toInt = (k.val : Int) := by
  have word : ∀ r : Fin n, (BitVec.ofNat 32 r.val).toInt = (r.val : Int) := fun r =>
    WordCmp.toInt_ofNat_of_lt (by have := r.isLt; omega)
  obtain ⟨hin, -, hall⟩ := fold_spec L ((⊥ : EReal), 0#32)
  generalize L.foldl (Cert.ReferenceIdeal.reducer_argmax_f32_i32 (F := Ideal)) ((⊥ : EReal), 0#32) = R at hin hall ⊢
  have hrow : ∀ r : Fin n, Yields (f r, BitVec.ofNat 32 r.val) R := fun r => hall _ ((hL _).2 ⟨r, rfl⟩)
  have hle : ∀ r : Fin n, f r ≤ R.1 := fun r => (hrow r).elim (fun h => h.le) fun h => h.1.le
  obtain ⟨k, hk⟩ : ∃ k : Fin n, R = (f k, BitVec.ofNat 32 k.val) := by
    rcases hin with hin | hin
    · refine ⟨⟨0, hn⟩, ?_⟩
      have := hle ⟨0, hn⟩
      rw [hin] at this ⊢
      exact Prod.ext (le_antisymm bot_le this) rfl
    · exact (hL R).1 hin
  have hbest : R.1 = v := Greatest.unique ⟨hle, k, by rw [hk]⟩ hv
  refine ⟨k, ⟨?_, fun i hi => ?_⟩, ?_⟩
  · rw [← hbest, hk]
  · rcases hrow i with h | h
    · exact absurd (hi.trans hbest.symm) (ne_of_lt h)
    · have h2 : R.2.toInt ≤ (BitVec.ofNat 32 i.val).toInt := h.2
      rw [word i, hk, word k] at h2
      exact Fin.le_def.2 (by omega)
  · rw [hk, word k]

end Cert.Columns

end
-- ==== Proof.Payloads.lean ====
/-
# What the kernel's arithmetic computes

Read over the extended reals. Of its block a device sends each column's greatest element and the first row holding it,
counted in the whole array. Of the sixteen pairs it then has, it takes the greatest value and the least row among the
pairs with that value.
-/
module

public import proofs.«01_k».proof.Proof.Order
public import proofs.«01_k».proof.Proof.KernelIdeal.Launch
public import Idealize.ShloMosaic.Lib.Pipeline.Value
public import Idealize.ShloMosaic.Lib.WordCmp

@[expose] public section

set_option maxRecDepth 16384

noncomputable section

namespace Cert.KernelIdealMesh

open Cert.KernelIdeal Cert.KernelIdeal.Gen
open Idealize.ShloMosaic Cert.Columns

set_option backward.proofsInPublic true in
/-- The index of a row and a column of a block, -/
def blockCell (r : Fin 2048) (j : Fin 1024) : S2048x1024.Idx := fun a =>
  match a with
  | ⟨0, _⟩ => r
  | ⟨1, _⟩ => j
set_option backward.proofsInPublic true in
/-- of a column alone, -/
def column (j : Fin 1024) : S1024.Idx := fun a =>
  match a with
  | ⟨0, _⟩ => j
set_option backward.proofsInPublic true in
/-- of a slot and a column, -/
def slotCell (s : Fin 16) (j : Fin 1024) : S16x1024.Idx := fun a =>
  match a with
  | ⟨0, _⟩ => s
  | ⟨1, _⟩ => j
set_option backward.proofsInPublic true in
/-- and of a slot and a column where the row of the pair is kept apart. -/
def slotAt (s : Fin 16) (j : Fin 1024) : S16x1x1024.Idx := fun a =>
  match a with
  | ⟨0, _⟩ => s
  | ⟨1, _⟩ => ⟨0, Nat.one_pos⟩
  | ⟨2, _⟩ => j

/-! ## The reshapes -/

theorem column_of_row {α : Type} (x : S1024.Idx → α) (h : S1024.ShapeCasts S1x1024) (j : Fin 1024) :
    shapeCast S1x1024 x h (colIdx j) = x (column j) :=
  shapeCast_apply x h _ _ (by
    rw [Shape.rowMajor_val_two, Shape.rowMajor_val_one]
    show j.val = 0 * 1024 + j.val
    omega)
theorem row_of_slot {α : Type} (x : S1x1024.Idx → α) (h : S1x1024.ShapeCasts S1x1x1024) (j : Fin 1024) :
    shapeCast S1x1x1024 x h (rowIdx j) = x (colIdx j) :=
  shapeCast_apply x h _ _ (by
    rw [Shape.rowMajor_val_three, Shape.rowMajor_val_two]
    show 0 * 1024 + j.val = (0 * 1 + 0) * 1024 + j.val
    omega)
theorem slots_flat {α : Type} (x : S16x1x1024.Idx → α) (h : S16x1x1024.ShapeCasts S16x1024) (s : Fin 16) (j : Fin 1024) :
    shapeCast S16x1024 x h (slotCell s j) = x (slotAt s j) :=
  shapeCast_apply x h _ _ (by
    rw [Shape.rowMajor_val_three, Shape.rowMajor_val_two]
    show (s.val * 1 + 0) * 1024 + j.val = s.val * 1024 + j.val
    omega)
theorem block_same {α : Type} (x : S2048x1024.Idx → α) (h : S2048x1024.ShapeCasts S2048x1024) : shapeCast S2048x1024 x h = x :=
  funext fun i => shapeCast_apply x h i i rfl
theorem row_over_slots {α : Type} (x : S1x1024.Idx → α) (h : S1x1024.Broadcasts S16x1024) (s : Fin 16) (j : Fin 1024) :
    broadcastTo S16x1024 x h (slotCell s j) = x (colIdx j) :=
  broadcastTo_apply x h _ _ fun a => by
    match a with
    | ⟨0, _⟩ => rfl
    | ⟨1, _⟩ => rfl

/-! ## The reductions -/

theorem reduces_block : S2048x1024.Reduces [0] S1024 := by decide
theorem reduces_slots : S16x1024.Reduces [0] S1024 := by decide

theorem lift_block (h : S2048x1024.Reduces [0] S1024) (j : Fin 1024) (r : Fin 2048) : h.lift (column j) r = blockCell r j := by
  funext a; apply Fin.ext
  match a with
  | ⟨0, _⟩ => rfl
  | ⟨1, _⟩ => rfl
theorem lift_slots (h : S16x1024.Reduces [0] S1024) (j : Fin 1024) (s : Fin 16) : h.lift (column j) s = slotCell s j := by
  funext a; apply Fin.ext
  match a with
  | ⟨0, _⟩ => rfl
  | ⟨1, _⟩ => rfl

theorem neg_inf : (FloatOps.ofBits .f32 0xFF800000#32 : Ideal .f32) = (⊥ : EReal) := by
  show Ideal.ofBits .f32 0xFF800000#32 = ⊥
  simp [Ideal.ofBits, Ideal.ieee]
theorem pos_inf : (FloatOps.ofBits .f32 0x7F800000#32 : Ideal .f32) = (⊤ : EReal) := by
  show Ideal.ofBits .f32 0x7F800000#32 = ⊤
  simp [Ideal.ofBits, Ideal.ieee]

/-- The first entry a device sends is the greatest element of the column of its block. -/
theorem sent_value (x : FVec Ideal S2048x1024 .f32) (j : Fin 1024) :
    Greatest (fun r : Fin 2048 => x (blockCell r j)) (k0_pay2 (F := Ideal) x (rowIdx j)) := by
  have e : k0_pay2 (F := Ideal) x (rowIdx j) = (Finset.univ : Finset (Fin 2048)).fold max (⊥ : EReal) (fun r => x (blockCell r j)) := by
    unfold k0_pay2 k0_pay1
    rw [row_of_slot, column_of_row, block_same]
    refine (Ideal.multiReduction_maximumf_single _ _ _ _ _ _).trans ?_
    rw [neg_inf]
    exact congrArg (Finset.fold max (⊥ : EReal) · Finset.univ) (funext fun r => congrArg x (lift_block _ j r))
  rw [e]
  exact greatest_fold _

/-- The least member of a set that has one. -/
theorem least_spec {S : Finset ℕ} (h : S.Nonempty) : S.min.getD 0 ∈ S ∧ ∀ n ∈ S, S.min.getD 0 ≤ n := by
  rw [← Finset.coe_min' h]
  exact ⟨S.min'_mem h, fun n hn => S.min'_le n hn⟩

/-- The arg-max over a block's rows is the first row holding the greatest element. -/
theorem block_first (x : FVec Ideal S2048x1024 .f32) (h : S2048x1024.Reduces [0] S1024) (j : Fin 1024) (v : EReal)
    (hv : Greatest (fun r : Fin 2048 => x (blockCell r j)) v) :
    ∃ k : Fin 2048, First (fun r : Fin 2048 => x (blockCell r j)) v k
      ∧ reduceIndex .argMax 0 S1024 x h (column j) = BitVec.ofNat 32 k.val := by
  have hdrop : ∀ r : Fin 2048, h.drop (blockCell r j) = column j := fun r =>
    (congrArg h.drop (lift_block h j r)).symm.trans (h.drop_lift _ _)
  have hcell : ∀ i : S2048x1024.Idx, h.drop i = column j → i = blockCell (i 0) j := fun i hi => by
    have hl := h.lift_drop i
    rw [hi] at hl
    exact hl.symm.trans (lift_block h j (i 0))
  obtain ⟨S, hval, hS⟩ : ∃ S : Finset ℕ, reduceIndex .argMax 0 S1024 x h (column j) = BitVec.ofNat 32 (S.min.getD 0)
      ∧ ∀ n, n ∈ S ↔ ∃ i : S2048x1024.Idx, (h.drop i = column j ∧ ∀ i' : S2048x1024.Idx, h.drop i' = column j → ¬ x i < x i') ∧ (i 0).val = n := by
    refine ⟨_, rfl, fun n => ?_⟩
    simp only [Finset.mem_image, Finset.mem_filter, Finset.mem_univ, true_and, if_true]
  have hmem : ∀ n, n ∈ S ↔ ∃ k : Fin 2048, x (blockCell k j) = v ∧ k.val = n := by
    intro n
    rw [hS]
    constructor
    · rintro ⟨i, ⟨hi, hb⟩, rfl⟩
      have hi := hcell i hi
      refine ⟨i 0, le_antisymm (hv.1 (i 0)) ?_, rfl⟩
      obtain ⟨t, ht⟩ := hv.2
      rw [← ht]
      exact (not_lt.1 (hb (blockCell t j) (hdrop t))).trans (le_of_eq (congrArg x hi))
    · rintro ⟨k, hk, rfl⟩
      refine ⟨blockCell k j, ⟨hdrop k, fun i' hi' => ?_⟩, rfl⟩
      rw [not_lt, hk, hcell i' hi']
      exact hv.1 (i' 0)
  obtain ⟨t, ht⟩ := hv.2
  obtain ⟨hin, hle⟩ := least_spec ⟨t.val, (hmem _).2 ⟨t, ht, rfl⟩⟩
  obtain ⟨k, hk, hkn⟩ := (hmem _).1 hin
  refine ⟨k, ⟨hk, fun i hi => ?_⟩, by rw [hval, hkn]⟩
  have := hle i.val ((hmem _).2 ⟨i, hi, rfl⟩)
  exact Fin.le_def.2 (hkn ▸ this)

/-- The second is the first row holding it, counted in the whole array: `w` blocks of rows lie before the block. -/
theorem sent_row (w : BitVec 32) (x : FVec Ideal S2048x1024 .f32) (j : Fin 1024) :
    ∃ k : Fin 2048, First (fun r : Fin 2048 => x (blockCell r j)) (k0_pay2 (F := Ideal) x (rowIdx j)) k
      ∧ k0_pay3 (F := Ideal) w x (rowIdx j) = (((BitVec.ofNat 32 k.val + w * 2048#32).toInt : ℝ) : EReal) := by
  obtain ⟨k, hk, e⟩ := block_first x reduces_S2048x1024_S1024 j _ (sent_value x j)
  refine ⟨k, hk, ?_⟩
  unfold k0_pay3 k0_pay1
  rw [row_of_slot, block_same]
  show (((shapeCast S1x1024 _ _ (colIdx j) + w * 2048#32 : BitVec 32).toInt : ℝ) : EReal) = _
  rw [column_of_row, e]

/-- The first result is the greatest of the values received. -/
theorem taken_value (v : FVec Ideal S16x1x1024 .f32) (j : Fin 1024) :
    Greatest (fun s : Fin 16 => v (slotAt s j)) (k0_pay5 (F := Ideal) v (colIdx j)) := by
  have e : k0_pay5 (F := Ideal) v (colIdx j) = (Finset.univ : Finset (Fin 16)).fold max (⊥ : EReal) (fun s => v (slotAt s j)) := by
    unfold k0_pay5 k0_pay4
    rw [column_of_row]
    refine (Ideal.multiReduction_maximumf_single _ _ _ _ _ _).trans ?_
    rw [neg_inf]
    exact congrArg (Finset.fold max (⊥ : EReal) · Finset.univ)
      (funext fun s => (congrArg (shapeCast S16x1024 v _) (lift_slots _ j s)).trans (slots_flat _ _ s j))
  rw [e]
  exact greatest_fold _

/-- The second result is the least of the rows received with that value. -/
theorem taken_row (v w : FVec Ideal S16x1x1024 .f32) (j : Fin 1024) :
    k0_pay6 (F := Ideal) v w (colIdx j) = (Finset.univ : Finset (Fin 16)).fold min (⊤ : EReal)
      (fun s => if v (slotAt s j) = k0_pay5 (F := Ideal) v (colIdx j) then w (slotAt s j) else ⊤) := by
  have point : ∀ s : Fin 16, select (cmpf .oeq (k0_pay4 (F := Ideal) v) (broadcastTo S16x1024 (k0_pay5 (F := Ideal) v) broadcasts_S1x1024_S16x1024))
      (shapeCast S16x1024 w shapeCasts_S16x1x1024_S16x1024) (broadcast S16x1024 (Scalar.ofBits (F := Ideal) .f32 0x7F800000#32)) (slotCell s j)
      = (if v (slotAt s j) = k0_pay5 (F := Ideal) v (colIdx j) then w (slotAt s j) else (⊤ : EReal)) := by
    intro s
    show Scalar.select (BitVec.ofBool (decide (shapeCast S16x1024 v _ (slotCell s j) = broadcastTo S16x1024 (k0_pay5 (F := Ideal) v) _ (slotCell s j))))
      (shapeCast S16x1024 w _ (slotCell s j)) (FloatOps.ofBits .f32 0x7F800000#32 : Ideal .f32) = _
    rw [slots_flat, slots_flat, row_over_slots, pos_inf]
    by_cases h : v (slotAt s j) = k0_pay5 (F := Ideal) v (colIdx j)
    · rw [if_pos h, decide_eq_true h]; rfl
    · rw [if_neg h, decide_eq_false h]; rfl
  unfold k0_pay6
  rw [column_of_row]
  refine (multiReduction_minimumf_eq_fold _ _ _ _ _ _).trans ?_
  rw [pos_inf]
  refine (Shape.Reduces.fold_filter_drop_single reduces_S16x1024_S1024 _ _ _ _).trans ?_
  exact congrArg (Finset.fold min (⊤ : EReal) · Finset.univ)
    (funext fun s => (congrArg _ (lift_slots _ j s)).trans (point s))

end Cert.KernelIdealMesh

end
-- ==== Proof.ReferenceValue.lean ====
/-
# The reference's value

Read over the extended reals: the first row of the reference's result holds each column's greatest element, the second
the first row at which that element stands.
-/
module

public import proofs.«01_k».proof.Proof.Order
public import proofs.«01_k».proof.Proof.Reference
public import Idealize.ShloMosaic.Lib.Pipeline.Value
public import Idealize.ShloMosaic.Lib.Pointwise.SelectCore
public import Idealize.ShloMosaic.Lib.WordCmp

@[expose] public section

noncomputable section

namespace Cert.ReferenceRun

open Cert.ReferenceIdeal Cert.ReferenceIdeal.Gen
open Idealize.ShloMosaic Cert.Columns

set_option backward.proofsInPublic true in
/-- The index of a row and a column of the whole array, -/
def cell (r : Fin 32768) (j : Fin 1024) : S32768x1024.Idx := fun a =>
  match a with
  | ⟨0, _⟩ => r
  | ⟨1, _⟩ => j
set_option backward.proofsInPublic true in
/-- and of a column alone. -/
def column (j : Fin 1024) : S1024.Idx := fun a =>
  match a with
  | ⟨0, _⟩ => j
set_option backward.proofsInPublic true in
/-- The index of a row and a column of the result. -/
def entry (r : Fin 2) (j : Fin 1024) : S2x1024.Idx := fun a =>
  match a with
  | ⟨0, _⟩ => r
  | ⟨1, _⟩ => j

theorem cell_eta (i : S32768x1024.Idx) : i = cell (i 0) (i 1) := by
  funext a
  match a with
  | ⟨0, _⟩ => rfl
  | ⟨1, _⟩ => rfl
theorem entry_eta (i : S2x1024.Idx) : i = entry (i 0) (i 1) := by
  funext a
  match a with
  | ⟨0, _⟩ => rfl
  | ⟨1, _⟩ => rfl

theorem reduces_rows : S32768x1024.Reduces [0] S1024 := by decide

theorem lift_column (j : Fin 1024) (r : Fin 32768) : reduces_rows.lift (column j) r = cell r j := by
  funext a; apply Fin.ext
  match a with
  | ⟨0, _⟩ => rfl
  | ⟨1, _⟩ => rfl
theorem drop_cell (r : Fin 32768) (j : Fin 1024) : reduces_rows.drop (cell r j) = column j :=
  (congrArg reduces_rows.drop (lift_column j r)).symm.trans (reduces_rows.drop_lift _ _)

theorem lowest_eq (k : S_.Idx) : lowest (F := Ideal) k = (⊥ : EReal) := by
  show Ideal.ofBits .f32 0xFF800000#32 = ⊥
  simp [Ideal.ofBits, Ideal.ieee]

theorem zero_word (k : S_.Idx) : constantI S_ 32 0#32 k = 0#32 := rfl

/-- The first row's entries are the columns' greatest elements. -/
theorem best_greatest (x : FVec Ideal S32768x1024 .f32) (j : Fin 1024) :
    Greatest (fun r : Fin 32768 => x (cell r j)) (best x (column j)) := by
  have e : best x (column j) = (Finset.univ : Finset (Fin 32768)).fold max (⊥ : EReal) (fun r => x (cell r j)) := by
    unfold best
    rw [Host.reduce_eq_fold_single _ _ _ _ reduces_rows, lowest_eq]
    exact congrArg (Finset.fold max (⊥ : EReal) · Finset.univ) (funext fun r => congrArg x (lift_column j r))
  rw [e]
  exact greatest_fold _

/-- The pairs the arg-max of a column runs over: each row's element with the row. -/
theorem mem_fiber (x : FVec Ideal S32768x1024 .f32) (j : Fin 1024) (p : EReal × BitVec 32) :
    p ∈ Host.argReduceFiber x (iotaInDim S32768x1024 32 0) reducesTo_S32768x1024_S1024_d0 (column j)
      ↔ ∃ r : Fin 32768, p = (x (cell r j), BitVec.ofNat 32 r.val) := by
  unfold Host.argReduceFiber
  constructor
  · intro h
    obtain ⟨n, hn, rfl⟩ := List.mem_map.1 h
    have hd : reduces_rows.drop (S32768x1024.rowMajor.symm n) = column j := of_decide_eq_true (List.mem_filter.1 hn).2
    obtain ⟨i, hi⟩ : ∃ i, i = S32768x1024.rowMajor.symm n := ⟨_, rfl⟩
    rw [← hi] at hd ⊢
    have hl := reduces_rows.lift_drop i
    rw [hd] at hl
    refine ⟨i 0, ?_⟩
    have hc : i = cell (i 0) j := hl.symm.trans (lift_column j (i 0))
    exact Prod.ext (congrArg x hc) rfl
  · rintro ⟨r, rfl⟩
    refine List.mem_map.2 ⟨S32768x1024.rowMajor (cell r j), List.mem_filter.2 ⟨List.mem_finRange _, ?_⟩, ?_⟩
    · rw [Equiv.symm_apply_apply]
      exact decide_eq_true (drop_cell r j)
    · rw [Equiv.symm_apply_apply]
      rfl

/-- What the arg-max is, read from its definition. -/
theorem found_eq (x : FVec Ideal S32768x1024 .f32) :
    found x = fun j => (Host.argReduce (reducer_argmax_f32_i32 (F := Ideal)) x (iotaInDim S32768x1024 32 0) lowest (constantI S_ 32 0#32)
      reducesTo_S32768x1024_S1024_d0 h_S_ j).2 := rfl

/-- The arg-max's answer is the first row holding the column's greatest element. -/
theorem found_first (x : FVec Ideal S32768x1024 .f32) (j : Fin 1024) :
    ∃ k : Fin 32768, First (fun r : Fin 32768 => x (cell r j)) (best x (column j)) k ∧ (found x (column j)).toInt = (k.val : Int) := by
  rw [found_eq, Ideal.argReduce_eq_reduce2]
  simp only [Host.reduce2_eq_foldl_fiber, lowest_eq, zero_word]
  exact fold_first (Nat.succ_pos _) (by omega) _ _ (best_greatest x j) _ (mem_fiber x j)

/-- The result's first row, -/
theorem stacked_zero (x : FVec Ideal S32768x1024 .f32) (j : Fin 1024) : stacked x (entry 0 j) = best x (column j) := by
  unfold stacked
  refine (concatenate_pair_apply _ _ _ _ _).trans ((dif_pos (show (0 : Nat) < 1 from Nat.one_pos)).trans ?_)
  exact broadcastInDim_apply _ _ _ _ (column j) fun a => by
    match a with
    | ⟨0, _⟩ => rfl

/-- and its second. -/
theorem stacked_one (x : FVec Ideal S32768x1024 .f32) (j : Fin 1024) :
    stacked x (entry 1 j) = (((found x (column j)).toInt : ℝ) : EReal) := by
  unfold stacked
  refine (concatenate_pair_apply _ _ _ _ _).trans ((dif_neg (show ¬ (1 : Nat) < 1 from lt_irrefl 1)).trans ?_)
  exact broadcastInDim_apply _ _ _ _ (column j) fun a => by
    match a with
    | ⟨0, _⟩ => rfl

end Cert.ReferenceRun

end
-- ==== Proof.Value.lean ====
/-
# Both compute the same

The kernel on its sixteen devices, each holding one block of rows, and the reference on the whole array: on every
device the kernel's result is the reference's.
-/
module

public import proofs.«01_k».proof.Proof.Payloads
public import proofs.«01_k».proof.Proof.ReferenceValue
public import Idealize.ShloMosaic.Lib.Layout

@[expose] public section

set_option maxRecDepth 16384

noncomputable section

namespace Cert.KernelIdealMesh

open Cert.KernelIdeal Cert.KernelIdeal.Gen
open Idealize.ShloMosaic Idealize.ShloMosaic.TcCoe Cert.Columns
open Cert.ReferenceRun (cell best found stacked entry)

/-! ## The arithmetic -/

set_option backward.proofsInPublic true in
/-- The row of the whole array at which a row of a device's block stands. -/
def rowOf (d : Dev nD) (r : Fin 2048) : Fin 32768 := ⟨d.val * 2048 + r.val, by
  have h : d.val < 16 := d.isLt
  have := r.isLt
  omega⟩

/-- Every row stands in one of the blocks. -/
theorem rowOf_surj (k : Fin 32768) : ∃ (d : Dev nD) (r : Fin 2048), rowOf d r = k :=
  ⟨⟨k.val / 2048, by have := k.isLt; show k.val / 2048 < 16; omega⟩, ⟨k.val % 2048, Nat.mod_lt _ (by omega)⟩, Fin.ext (by
    show k.val / 2048 * 2048 + k.val % 2048 = k.val
    omega)⟩

/-- A device's number, as the kernel computes it. -/
theorem devWord_eq : ∀ d : Dev nD, devWord d = BitVec.ofNat 32 d.val := by decide

/-- The word of a row, counted in the whole array. -/
theorem word_row (d : Dev nD) (r : Fin 2048) : (BitVec.ofNat 32 r.val + devWord d * 2048#32).toInt = ((rowOf d r).val : Int) := by
  have e : BitVec.ofNat 32 r.val + devWord d * 2048#32 = BitVec.ofNat 32 (rowOf d r).val := by
    rw [devWord_eq, show (rowOf d r).val = d.val * 2048 + r.val from rfl, BitVec.ofNat_add, BitVec.ofNat_mul, BitVec.add_comm]
  rw [e]
  exact WordCmp.toInt_ofNat_of_lt (by have := (rowOf d r).isLt; omega)

section
variable (X : FVec Ideal Cert.ReferenceIdeal.S32768x1024 .f32) (xs : Dev nD → FVec Ideal S2048x1024 .f32)
  (hx : ∀ d r j, xs d (blockCell r j) = X (cell (rowOf d r) j))
  (src : Fin 16 → Dev nD) (hsrc : ∀ d, ∃ s, src s = d) (v w : FVec Ideal S16x1x1024 .f32) (j : Fin 1024)
  (hv : ∀ s, v (slotAt s j) = k0_pay2 (F := Ideal) (xs (src s)) (rowIdx j))
  (hw : ∀ s, w (slotAt s j) = k0_pay3 (F := Ideal) (devWord (src s)) (xs (src s)) (rowIdx j))
include hx hsrc hv hw

/-- The greatest value of the sixteen pairs is the column's greatest element. -/
theorem value_eq : k0_pay5 (F := Ideal) v (colIdx j) = best X (Cert.ReferenceRun.column j) := by
  have hV := taken_value v j
  refine Greatest.unique (f := fun k : Fin 32768 => X (cell k j)) ⟨fun k => ?_, ?_⟩ (Cert.ReferenceRun.best_greatest X j)
  · obtain ⟨d, r, rfl⟩ := rowOf_surj k
    obtain ⟨s, rfl⟩ := hsrc d
    refine le_trans (le_of_eq (hx (src s) r j).symm) (((sent_value (xs (src s)) j).1 r).trans ?_)
    exact (le_of_eq (hv s).symm).trans (hV.1 s)
  · obtain ⟨s, hs⟩ := hV.2
    obtain ⟨r, hr⟩ := (sent_value (xs (src s)) j).2
    exact ⟨rowOf (src s) r, (hx (src s) r j).symm.trans (hr.trans ((hv s).symm.trans hs))⟩

/-- The least row of the pairs with that value is the first row holding it. -/
theorem row_eq : k0_pay6 (F := Ideal) v w (colIdx j) = (((found X (Cert.ReferenceRun.column j)).toInt : ℝ) : EReal) := by
  have hb := value_eq X xs hx src hsrc v w j hv hw
  obtain ⟨k, hk, e⟩ := Cert.ReferenceRun.found_first X j
  rw [taken_row, hb, e]
  have hbest := Cert.ReferenceRun.best_greatest X j
  -- what a slot with the greatest value holds
  have slot : ∀ s : Fin 16, ∃ r : Fin 2048, First (fun r : Fin 2048 => X (cell (rowOf (src s) r) j)) (v (slotAt s j)) r
      ∧ w (slotAt s j) = ((((rowOf (src s) r).val : Int) : ℝ) : EReal) := fun s => by
    obtain ⟨r, hr, hwr⟩ := sent_row (devWord (src s)) (xs (src s)) j
    rw [word_row] at hwr
    refine ⟨r, ⟨?_, fun i hi => hr.2 i ?_⟩, (hw s).trans hwr⟩
    · exact (hx (src s) r j).symm.trans (hr.1.trans (hv s).symm)
    · exact (hx (src s) i j).trans (hi.trans (hv s))
  have cast_le : ∀ a b : Fin 32768, a ≤ b → (((a.val : Int) : ℝ) : EReal) ≤ (((b.val : Int) : ℝ) : EReal) := fun a b h =>
    EReal.coe_le_coe_iff.2 (Int.cast_le.2 (by have := Fin.le_def.1 h; omega))
  refine le_antisymm ?_ ?_
  · obtain ⟨d, r, hdr⟩ := rowOf_surj k
    obtain ⟨s, rfl⟩ := hsrc d
    obtain ⟨t, ht, hwt⟩ := slot s
    have hkX : X (cell (rowOf (src s) r) j) = best X (Cert.ReferenceRun.column j) := by rw [hdr]; exact hk.1
    have hvs : v (slotAt s j) = best X (Cert.ReferenceRun.column j) := by
      refine le_antisymm ((le_of_eq ht.1.symm).trans (hbest.1 (rowOf (src s) t))) ?_
      rw [← hkX, ← hx, hv s]
      exact (sent_value (xs (src s)) j).1 r
    refine (Finset.fold_min_le _).2 (.inr ⟨s, Finset.mem_univ s, ?_⟩)
    rw [if_pos hvs, hwt]
    refine cast_le _ _ ?_
    rw [← hdr]
    have htr : t ≤ r := ht.2 r (hkX.trans hvs.symm)
    exact Fin.le_def.2 (Nat.add_le_add_left (Fin.le_def.1 htr) _)
  · refine (Finset.le_fold_min _).2 ⟨le_top, fun s _ => ?_⟩
    by_cases h : v (slotAt s j) = best X (Cert.ReferenceRun.column j)
    · rw [if_pos h]
      obtain ⟨t, ht, hwt⟩ := slot s
      rw [hwt]
      exact cast_le _ _ (hk.2 _ (ht.1.trans h))
    · rw [if_neg h]
      exact le_top

end

/-! ## The arrays -/

section
variable {F : FTy → Type} [FloatOps F] (m : (ℓ : Loc nD τ sig) → Buf (Elt F) ℓ) (ρ : Dev nD → PrngReg)

/-- The block a device works on is its argument. -/
theorem xstg_eq (c : Dev nD) : xstg m ρ c = m ((c : Thread nD τ).loc main_arg0) := by
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- What the result array ends as. -/
theorem finalA_out (c : Dev nD) : finalA m ρ c (1 : Fin 2) = outAt m ρ c := by
  have hz0 : (fun a => (win0_1.index (0 : Fin 1)) a * main_v1.ty.shape.size a) = fun _ => 0 :=
    funext fun a => by fin_cases a <;> decide
  have hr := fun f => Memref.read_access_unit_zero (Elt F) main_v1 hz0 (fun a => by fin_cases a <;> decide) f
  have ho : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (hr _).symm.trans ho

/-- The first row of a device's pair, -/
theorem pairOf_zero (d : Dev nD) (j : Fin 1024) : pairOf m ρ d 0 j = k0_pay2 (xstg m ρ d) (rowIdx j) := by
  unfold pairOf
  exact if_pos (show ((0 : Fin 2) : ℕ) = 0 from rfl)

/-- and the second. -/
theorem pairOf_one (d : Dev nD) (j : Fin 1024) : pairOf m ρ d 1 j = k0_pay3 (devWord d) (xstg m ρ d) (rowIdx j) := by
  unfold pairOf
  exact if_neg (show ¬ ((1 : Fin 2) : ℕ) = 0 from Nat.one_ne_zero)

/-- A slot's place, row by row. -/
theorem gathered_at (c : Dev nD) (s : Fin 16) (r : Fin 2) (j : Fin 1024) : gathered m ρ c (at3 s r j) = pairOf m ρ (back c s) r j := rfl

/-- The values read back from the sixteen slots, -/
theorem vals_at (c : Dev nD) (s : Fin 16) (j : Fin 1024) :
    vals m ρ c (slotAt s j) = k0_pay2 (xstg m ρ (back c s)) (rowIdx j) := by
  have e : ((bM : Memref sig .tc .vmem S16x2x1024 .f32).access rV : View sig .tc _ _ _).emb (slotAt s j) = at3 s 0 j := by
    funext a; apply Fin.ext
    refine (ValueKit.view_emb_slice_whole_unit_val cc0_scratch0 _ _ _ _ a).trans ?_
    match a with
    | ⟨0, _⟩ => exact Nat.zero_add _
    | ⟨1, _⟩ => rfl
    | ⟨2, _⟩ => exact Nat.zero_add _
  have h : vals m ρ c (slotAt s j) = gathered m ρ c (at3 s 0 j) := by
    rw [← e]
    unfold vals
    generalize gathered m ρ c = f
    rw [View.readAt_rect, View.read_apply, cast_eq]
  rw [h, gathered_at, pairOf_zero]

/-- and the rows. -/
theorem idxs_at (c : Dev nD) (s : Fin 16) (j : Fin 1024) :
    idxs m ρ c (slotAt s j) = k0_pay3 (devWord (back c s)) (xstg m ρ (back c s)) (rowIdx j) := by
  have e : ((bM : Memref sig .tc .vmem S16x2x1024 .f32).access rI : View sig .tc _ _ _).emb (slotAt s j) = at3 s 1 j := by
    funext a; apply Fin.ext
    refine (ValueKit.view_emb_slice_whole_unit_val cc0_scratch0 _ _ _ _ a).trans ?_
    match a with
    | ⟨0, _⟩ => exact Nat.zero_add _
    | ⟨1, _⟩ => rfl
    | ⟨2, _⟩ => exact Nat.zero_add _
  have h : idxs m ρ c (slotAt s j) = gathered m ρ c (at3 s 1 j) := by
    rw [← e]
    unfold idxs
    generalize gathered m ρ c = f
    rw [View.readAt_rect, View.read_apply, cast_eq]
  rw [h, gathered_at, pairOf_one]

end

/-- Where each device's argument is its block of the whole array, each device's result is the reference's. -/
theorem out_eq (m : (ℓ : Loc nD τ sig) → Buf (Elt Ideal) ℓ) (ρ : Dev nD → PrngReg) (X : FVec Ideal Cert.ReferenceIdeal.S32768x1024 .f32)
    (hX : ∀ c : Dev nD, m ((c : Thread nD τ).loc main_arg0) = Layout.block ⟨2, ![2048, 1024]⟩ ⟨2, ![32768, 1024]⟩ 0 16 c X) (c : Dev nD) :
    outAt m ρ c = stacked X := by
  have hx : ∀ d r j, xstg m ρ d (blockCell r j) = X (cell (rowOf d r) j) := fun d r j => by
    rw [xstg_eq, hX d]
    refine congrArg X (funext fun a => Fin.ext ?_)
    match a with
    | ⟨0, _⟩ => rfl
    | ⟨1, _⟩ => rfl
  have hsrc : ∀ d, ∃ s, back c s = d := by revert c; decide
  have key : ∀ (r : Fin 2) (j : Fin 1024), outAt m ρ c (at2 r j) = stacked X (entry r j) := fun r j => by
    match r with
    | 0 =>
      rw [Cert.ReferenceRun.stacked_zero]
      exact (if_pos rfl).trans (value_eq X (xstg m ρ) hx (back c) hsrc (vals m ρ c) (idxs m ρ c) j (fun s => vals_at m ρ c s j) (fun s => idxs_at m ρ c s j))
    | 1 =>
      rw [Cert.ReferenceRun.stacked_one]
      exact (if_neg Nat.one_ne_zero).trans (row_eq X (xstg m ρ) hx (back c) hsrc (vals m ρ c) (idxs m ρ c) j (fun s => vals_at m ρ c s j) (fun s => idxs_at m ρ c s j))
  refine funext fun (i : S2x1024.Idx) => ?_
  have h := key (i 0) (i 1)
  rw [← at2_eta i] at h
  exact h.trans (congrArg (stacked X) (Cert.ReferenceRun.entry_eta i).symm)

end Cert.KernelIdealMesh

end
-- ==== Proof.lean ====
/-
# The maximum of every column and its row, over sixteen devices

The frames of the kernel, of the kernel over the extended reals and of the reference, and their equation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie_Kernel
public import proofs.«01_k».proof.Proof.Gen.Pre_no_tie_ReferenceIdeal
public import proofs.«01_k».proof.Proof.Kernel.Launch
public import proofs.«01_k».proof.Proof.KernelIdeal.Launch
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, its argument ends unchanged and every semaphore at zero. -/
theorem kernel_frame : quiescent_Kernel (hKernel := Cert.Kernel.Gen.facts) := fun m ρ _ =>
  (θ_run _ _ _).mono (fun _ h => ⟨fun c => (h.1 c (0 : Fin 2)).trans (Cert.KernelMesh.finalA_x m ρ c), h.2⟩)
    (Cert.KernelMesh.run_main (F := Bits) m ρ)

/-- So does the kernel over the extended reals, -/
theorem ideal_frame : quiescent_KernelIdeal (hKernelIdeal := Cert.KernelIdeal.Gen.facts)
    (hPre_no_tie_Kernel := Cert.Pre_no_tie_Kernel.Gen.facts) := fun m ρ _ =>
  (θ_run _ _ _).mono (fun _ h => ⟨fun c => (h.1 c (0 : Fin 2)).trans (Cert.KernelIdealMesh.finalA_x m ρ c), h.2⟩)
    (Cert.KernelIdealMesh.run_main (F := Ideal) m ρ)

/-- and so does the reference. -/
theorem reference_frame : quiescent_ReferenceIdeal (hReferenceIdeal := Cert.ReferenceIdeal.Gen.facts) := fun m ρ _ =>
  (θ_run _ _ _).mono (fun _ h => ⟨fun c => (h.1 c).2, h.2⟩) (Cert.ReferenceRun.run_main (F := Ideal) m ρ)

/-- Every device's result is the reference's: the greatest element of every column of the whole array, and its first row. -/
theorem equation : algebraic_KernelIdeal_ReferenceIdeal (hKernelIdeal := Cert.KernelIdeal.Gen.facts)
    (hReferenceIdeal := Cert.ReferenceIdeal.Gen.facts) (hPre_no_tie_Kernel := Cert.Pre_no_tie_Kernel.Gen.facts) :=
  fun m ρ m' ρ' _ hX =>
  ⟨Cert.ReferenceRun.stacked (F := Ideal) (m' ((0 : Dev Cert.ReferenceIdeal.nD).tc.loc Cert.ReferenceIdeal.main_arg0)),
    (θ_run _ _ _).mono (fun _ h c => ⟨(h.1 c (1 : Fin 2)).trans ((Cert.KernelIdealMesh.finalA_out m ρ c).trans
        (Cert.KernelIdealMesh.out_eq m ρ _ hX c)), (h.1 c (0 : Fin 2)).trans (Cert.KernelIdealMesh.finalA_x m ρ c)⟩)
      (Cert.KernelIdealMesh.run_main (F := Ideal) m ρ),
    (θ_run _ _ _).mono (fun _ h => h.1 0) (Cert.ReferenceRun.run_main (F := Ideal) m' ρ')⟩

theorem claim : Cert.Claim := ⟨Cert.Kernel.Gen.facts, Cert.KernelIdeal.Gen.facts, Cert.ReferenceIdeal.Gen.facts, Cert.Pre_no_tie_Kernel.Gen.facts, Cert.Pre_no_tie_ReferenceIdeal.Gen.facts,
  kernel_frame, fun m ρ h => kernel_frame m ρ (by trivial), ideal_frame, reference_frame, fun m ρ h => reference_frame m ρ (by trivial),
  trivial, equation⟩

end Cert.Proof

end
